-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_a_log_as_set_up [hPre_a_log_as_set_up : Cert.Pre_a_log_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_a_log_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_a_log_as_set_up [hPre_a_log_as_set_up : Cert.Pre_a_log_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_a_log_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_a_log_as_set_up [hKernelIdeal : Cert.KernelIdeal.Facts] [hPre_a_log_as_set_up : Cert.Pre_a_log_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_a_log_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_a_log_as_set_up [hReferenceIdeal : Cert.ReferenceIdeal.Facts] [hPre_a_log_as_set_up : Cert.Pre_a_log_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_a_log_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_a_log_as_set_up [hKernelIdeal : Cert.KernelIdeal.Facts] [hReferenceIdeal : Cert.ReferenceIdeal.Facts] [hPre_a_log_as_set_up : Cert.Pre_a_log_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_a_log_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_a_log_as_set_up : Cert.Pre_a_log_as_set_up.Facts),
    quiescent_Kernel (hKernel := hKernel)
    ∧ quiescent_KernelIdeal (hKernelIdeal := hKernelIdeal)
    ∧ quiescent_KernelIdeal_pre_a_log_as_set_up (hKernelIdeal := hKernelIdeal) (hPre_a_log_as_set_up := hPre_a_log_as_set_up)
    ∧ quiescent_ReferenceIdeal (hReferenceIdeal := hReferenceIdeal)
    ∧ quiescent_ReferenceIdeal_pre_a_log_as_set_up (hReferenceIdeal := hReferenceIdeal) (hPre_a_log_as_set_up := hPre_a_log_as_set_up)
    ∧ preserves_Kernel_KernelIdeal
    ∧ algebraic_KernelIdeal_ReferenceIdeal_pre_a_log_as_set_up (hKernelIdeal := hKernelIdeal) (hReferenceIdeal := hReferenceIdeal) (hPre_a_log_as_set_up := hPre_a_log_as_set_up)
-- ==== Pre_a_log_as_set_up.lean ====
abbrev S4x64x64x256 : Shape := ⟨4, ![4, 64, 64, 256]⟩
abbrev S256 : Shape := ⟨1, ![256]⟩
abbrev S1024x256 : Shape := ⟨2, ![1024, 256]⟩
abbrev S512x4 : Shape := ⟨2, ![512, 4]⟩
abbrev S512 : Shape := ⟨1, ![512]⟩
abbrev S144x512 : Shape := ⟨2, ![144, 512]⟩
abbrev S512x16 : Shape := ⟨2, ![512, 16]⟩
abbrev S512x64 : Shape := ⟨2, ![512, 64]⟩
abbrev S256x512 : Shape := ⟨2, ![256, 512]⟩
abbrev S_ : Shape := ⟨0, ![]⟩

class Facts : Prop where
  bcast_S_S512x64 : S_.BroadcastsInDim S512x64 (![] : Fin 0 → Fin S512x64.rank)

variable [Facts]

def fn {F : FTy → Type} [FloatOps F] (main_arg0 : FVec F S4x64x64x256 .f32) (main_arg1 : FVec F S256 .f32) (main_arg2 : FVec F S256 .f32) (main_arg3 : FVec F S256 .f32) (main_arg4 : FVec F S256 .f32) (main_arg5 : FVec F S1024x256 .f32) (main_arg6 : FVec F S512x4 .f32) (main_arg7 : FVec F S512 .f32) (main_arg8 : FVec F S144x512 .f32) (main_arg9 : FVec F S512x16 .f32) (main_arg10 : FVec F S512 .f32) (main_arg11 : FVec F S512x64 .f32) (main_arg12 : FVec F S512 .f32) (main_arg13 : FVec F S256x512 .f32) : IVec S512x64 1 :=
  let main_v0 : IVec S512x64 32 := iotaInDim S512x64 32 1
  let main_c : IVec S_ 32 := constantI S_ 32 1#32
  let main_v1 : IVec S512x64 32 := broadcastInDim S512x64 ![] bcast_S_S512x64 main_c
  let main_v2 : IVec S512x64 32 := addi main_v0 main_v1
  let main_v3 : FVec F S512x64 .f32 := sitofp .f32 main_v2
  let main_v4 : FVec F S512x64 .f32 := Host.log main_v3
  let main_v5 : IVec S512x64 1 := cmpf .oeq main_arg11 main_v4
  main_v5
-- ==== Kernel.lean ====
abbrev S4x64x64x256 : Shape := ⟨4, ![4, 64, 64, 256]⟩
abbrev S256 : Shape := ⟨1, ![256]⟩
abbrev S1024x256 : Shape := ⟨2, ![1024, 256]⟩
abbrev S512x4 : Shape := ⟨2, ![512, 4]⟩
abbrev S512 : Shape := ⟨1, ![512]⟩
abbrev S144x512 : Shape := ⟨2, ![144, 512]⟩
abbrev S512x16 : Shape := ⟨2, ![512, 16]⟩
abbrev S512x64 : Shape := ⟨2, ![512, 64]⟩
abbrev S256x512 : Shape := ⟨2, ![256, 512]⟩
abbrev S4x4096x256 : Shape := ⟨3, ![4, 4096, 256]⟩
abbrev S8x4096x256 : Shape := ⟨3, ![8, 4096, 256]⟩
abbrev S256x1024 : Shape := ⟨2, ![256, 1024]⟩
abbrev S512x144 : Shape := ⟨2, ![512, 144]⟩
abbrev S16x512 : Shape := ⟨2, ![16, 512]⟩
abbrev S512x256 : Shape := ⟨2, ![512, 256]⟩
abbrev S64x512 : Shape := ⟨2, ![64, 512]⟩
abbrev S4x512 : Shape := ⟨2, ![4, 512]⟩
abbrev S1x512 : Shape := ⟨2, ![1, 512]⟩
abbrev S1x256 : Shape := ⟨2, ![1, 256]⟩
abbrev S1x512x256 : Shape := ⟨3, ![1, 512, 256]⟩
abbrev S520x512 : Shape := ⟨2, ![520, 512]⟩
abbrev S512x512 : Shape := ⟨2, ![512, 512]⟩
abbrev S8x512 : Shape := ⟨2, ![8, 512]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S128x1024 : Shape := ⟨2, ![128, 1024]⟩
abbrev S128x512 : Shape := ⟨2, ![128, 512]⟩
abbrev S128x64 : Shape := ⟨2, ![128, 64]⟩
abbrev S128x16 : Shape := ⟨2, ![128, 16]⟩
abbrev S32x512 : Shape := ⟨2, ![32, 512]⟩
abbrev S64x1 : Shape := ⟨2, ![64, 1]⟩
abbrev S1x64 : Shape := ⟨2, ![1, 64]⟩

abbrev nBuf : Space → Nat
  | .hbm => 44
  | .vmem => 27
  | .smem => 0
  | _ => 0

abbrev bufTy : (tb : Table) → Fin (tcTables nBuf tb) → BufTy
  | .hbm, ⟨0, _⟩ => ⟨S4x64x64x256, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1024x256, .f32⟩
  | .hbm, ⟨6, _⟩ => ⟨S512x4, .f32⟩
  | .hbm, ⟨7, _⟩ => ⟨S512, .f32⟩
  | .hbm, ⟨8, _⟩ => ⟨S144x512, .f32⟩
  | .hbm, ⟨9, _⟩ => ⟨S512x16, .f32⟩
  | .hbm, ⟨10, _⟩ => ⟨S512, .f32⟩
  | .hbm, ⟨11, _⟩ => ⟨S512x64, .f32⟩
  | .hbm, ⟨12, _⟩ => ⟨S512, .f32⟩
  | .hbm, ⟨13, _⟩ => ⟨S256x512, .f32⟩
  | .hbm, ⟨14, _⟩ => ⟨S4x4096x256, .f32⟩
  | .hbm, ⟨15, _⟩ => ⟨S4x64x64x256, .f32⟩
  | .hbm, ⟨16, _⟩ => ⟨S4x4096x256, .f32⟩
  | .hbm, ⟨17, _⟩ => ⟨S8x4096x256, .f32⟩
  | .hbm, ⟨18, _⟩ => ⟨S256x1024, .f32⟩
  | .hbm, ⟨19, _⟩ => ⟨S512x144, .f32⟩
  | .hbm, ⟨20, _⟩ => ⟨S512x16, .f32⟩
  | .hbm, ⟨21, _⟩ => ⟨S512x64, .f32⟩
  | .hbm, ⟨22, _⟩ => ⟨S512x64, .f32⟩
  | .hbm, ⟨23, _⟩ => ⟨S16x512, .f32⟩
  | .hbm, ⟨24, _⟩ => ⟨S512x256, .f32⟩
  | .hbm, ⟨25, _⟩ => ⟨S512x64, .f32⟩
  | .hbm, ⟨26, _⟩ => ⟨S512x64, .f32⟩
  | .hbm, ⟨27, _⟩ => ⟨S64x512, .f32⟩
  | .hbm, ⟨28, _⟩ => ⟨S4x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S8x4096x256, .f32⟩
  | .hbm, ⟨37, _⟩ => ⟨S4x4096x256, .f32⟩
  | .hbm, ⟨38, _⟩ => ⟨S4x64x64x256, .f32⟩
  | .hbm, ⟨39, _⟩ => ⟨S4x4096x256, .f32⟩
  | .hbm, ⟨40, _⟩ => ⟨S4x64x64x256, .f32⟩
  | .hbm, ⟨41, _⟩ => ⟨S4x64x64x256, .f32⟩
  | .hbm, ⟨42, _⟩ => ⟨S4x64x64x256, .f32⟩
  | .hbm, ⟨43, _⟩ => ⟨S4x64x64x256, .f32⟩
  | .local _ .vmem, ⟨0, _⟩ => ⟨S1x512x256, .f32⟩
  | .local _ .vmem, ⟨1, _⟩ => ⟨S1x512x256, .f32⟩
  | .local _ .vmem, ⟨2, _⟩ => ⟨S256x1024, .f32⟩
  | .local _ .vmem, ⟨3, _⟩ => ⟨S512x16, .f32⟩
  | .local _ .vmem, ⟨4, _⟩ => ⟨S512x64, .f32⟩
  | .local _ .vmem, ⟨5, _⟩ => ⟨S512x64, .f32⟩
  | .local _ .vmem, ⟨6, _⟩ => ⟨S16x512, .f32⟩
  | .local _ .vmem, ⟨7, _⟩ => ⟨S1x512, .f32⟩
  | .local _ .vmem, ⟨8, _⟩ => ⟨S64x512, .f32⟩
  | .local _ .vmem, ⟨9, _⟩ => ⟨S4x512, .f32⟩
  | .local _ .vmem, ⟨10, _⟩ => ⟨S1x512, .f32⟩
  | .local _ .vmem, ⟨11, _⟩ => ⟨S1x512, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S512x256, .f32⟩
  | .local _ .vmem, ⟨17, _⟩ => ⟨S1x512x256, .f32⟩
  | .local _ .vmem, ⟨18, _⟩ => ⟨S1x512x256, .f32⟩
  | .local _ .vmem, ⟨19, _⟩ => ⟨S64x512, .f32⟩
  | .local _ .vmem, ⟨20, _⟩ => ⟨S520x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x64, .f32⟩
  | .local _ .vmem, ⟨26, _⟩ => ⟨S512x64, .f32⟩
  | _, _ => ⟨S4x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨2, ![8, 8], ![false, false]⟩

def k0_mult1 : BitVec 32 :=
  let c0_i32_233 : BitVec 32 := 0#32
  let c512_i32 : BitVec 32 := 512#32
  let v455 : BitVec 32 := Scalar.muli c0_i32_233 c512_i32
  v455
def k0_off1 : Fin 2 → Nat :=
  let c0_i32_233 : BitVec 32 := 0#32
  let c512_i32 : BitVec 32 := 512#32
  let v455 : BitVec 32 := Scalar.muli c0_i32_233 c512_i32
  let v456 : BitVec 32 := v455
  let v457 : Index := Scalar.indexCast v456
  let c0_237 : Index := 0#32
  ![v457.toNat, 0]
def k0_off2 : Fin 2 → Nat :=
  let c0_i32_233 : BitVec 32 := 0#32
  let c512_i32 : BitVec 32 := 512#32
  let v455 : BitVec 32 := Scalar.muli c0_i32_233 c512_i32
  let v456 : BitVec 32 := v455
  let v462 : Index := Scalar.indexCast v456
  let c0_239 : Index := 0#32
  ![v462.toNat, 0]
def k0_off3 (c0_i32_249 : BitVec 32) : Fin 2 → Nat :=
  let c0_i32_233 : BitVec 32 := 0#32
  let c512_i32 : BitVec 32 := 512#32
  let v455 : BitVec 32 := Scalar.muli c0_i32_233 c512_i32
  let v456 : BitVec 32 := v455
  let v644 : BitVec 32 := Scalar.addi v456 c0_i32_249
  let v645 : Index := Scalar.indexCast v644
  let c0_250 : Index := 0#32
  ![v645.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x64x64x256 : Shape := ⟨4, ![4, 64, 64, 256]⟩
abbrev S256 : Shape := ⟨1, ![256]⟩
abbrev S1024x256 : Shape := ⟨2, ![1024, 256]⟩
abbrev S512x4 : Shape := ⟨2, ![512, 4]⟩
abbrev S512 : Shape := ⟨1, ![512]⟩
abbrev S144x512 : Shape := ⟨2, ![144, 512]⟩
abbrev S512x16 : Shape := ⟨2, ![512, 16]⟩
abbrev S512x64 : Shape := ⟨2, ![512, 64]⟩
abbrev S256x512 : Shape := ⟨2, ![256, 512]⟩
abbrev S_ : Shape := ⟨0, ![]⟩
abbrev S4x64x64 : Shape := ⟨3, ![4, 64, 64]⟩
abbrev S4x64x64x1 : Shape := ⟨4, ![4, 64, 64, 1]⟩
abbrev S1x1x1x256 : Shape := ⟨4, ![1, 1, 1, 256]⟩
abbrev S4x4096x256 : Shape := ⟨3, ![4, 4096, 256]⟩
abbrev S8x4096x256 : Shape := ⟨3, ![8, 4096, 256]⟩
abbrev S8x4096x1024 : Shape := ⟨3, ![8, 4096, 1024]⟩
abbrev S8x4096x512 : Shape := ⟨3, ![8, 4096, 512]⟩
abbrev S8x4099x512 : Shape := ⟨3, ![8, 4099, 512]⟩
abbrev S512x1 : Shape := ⟨2, ![512, 1]⟩
abbrev S1x1x512 : Shape := ⟨3, ![1, 1, 512]⟩
abbrev S8x4096x144 : Shape := ⟨3, ![8, 4096, 144]⟩
abbrev S8x4096x16 : Shape := ⟨3, ![8, 4096, 16]⟩
abbrev S8x4096x64 : Shape := ⟨3, ![8, 4096, 64]⟩
abbrev S8x512x64 : Shape := ⟨3, ![8, 512, 64]⟩
abbrev S4096x8x512 : Shape := ⟨3, ![4096, 8, 512]⟩
abbrev S4096x8x64 : Shape := ⟨3, ![4096, 8, 64]⟩
abbrev S1x8x512 : Shape := ⟨3, ![1, 8, 512]⟩
abbrev S8x512 : Shape := ⟨2, ![8, 512]⟩
abbrev S1x8x64 : Shape := ⟨3, ![1, 8, 64]⟩
abbrev S8x64 : Shape := ⟨2, ![8, 64]⟩
abbrev S8x512x1 : Shape := ⟨3, ![8, 512, 1]⟩
abbrev S1x512x64 : Shape := ⟨3, ![1, 512, 64]⟩
abbrev S8x1x64 : Shape := ⟨3, ![8, 1, 64]⟩
abbrev S1x512 : Shape := ⟨2, ![1, 512]⟩
abbrev S8x4096 : Shape := ⟨2, ![8, 4096]⟩
abbrev S8x4096x1 : Shape := ⟨3, ![8, 4096, 1]⟩
abbrev S1x1x256 : Shape := ⟨3, ![1, 1, 256]⟩

abbrev nBuf : Space → Nat
  | .hbm => 234
  | .vmem => 0
  | .smem => 0
  | _ => 0

abbrev hbmTy0_0 (i : Nat) : BufTy := match i % 128 with
  | 0 => ⟨S4x64x64x256, .f32⟩
  | 1 => ⟨S256, .f32⟩
  | 2 => ⟨S256, .f32⟩
  | 3 => ⟨S256, .f32⟩
  | 4 => ⟨S256, .f32⟩
  | 5 => ⟨S1024x256, .f32⟩
  | 6 => ⟨S512x4, .f32⟩
  | 7 => ⟨S512, .f32⟩
  | 8 => ⟨S144x512, .f32⟩
  | 9 => ⟨S512x16, .f32⟩
  | 10 => ⟨S512, .f32⟩
  | 11 => ⟨S512x64, .f32⟩
  | 12 => ⟨S512, .f32⟩
  | 13 => ⟨S256x512, .f32⟩
  | 14 => ⟨S_, .f32⟩
  | 15 => ⟨S4x64x64, .f32⟩
  | 16 => ⟨S4x64x64x1, .f32⟩
  | 17 => ⟨S_, .f32⟩
  | 18 => ⟨S4x64x64x1, .f32⟩
  | 19 => ⟨S4x64x64x1, .f32⟩
  | 20 => ⟨S4x64x64x256, .f32⟩
  | 21 => ⟨S4x64x64x256, .f32⟩
  | 22 => ⟨S4x64x64x256, .f32⟩
  | 23 => ⟨S_, .f32⟩
  | 24 => ⟨S4x64x64, .f32⟩
  | 25 => ⟨S4x64x64x1, .f32⟩
  | 26 => ⟨S_, .f32⟩
  | 27 => ⟨S4x64x64x1, .f32⟩
  | 28 => ⟨S4x64x64x1, .f32⟩
  | 29 => ⟨S4x64x64x256, .f32⟩
  | 30 => ⟨S4x64x64x256, .f32⟩
  | 31 => ⟨S_, .f32⟩
  | 32 => ⟨S4x64x64x1, .f32⟩
  | 33 => ⟨S4x64x64x1, .f32⟩
  | 34 => ⟨S4x64x64x1, .f32⟩
  | 35 => ⟨S4x64x64x256, .f32⟩
  | 36 => ⟨S4x64x64x256, .f32⟩
  | 37 => ⟨S1x1x1x256, .f32⟩
  | 38 => ⟨S4x64x64x256, .f32⟩
  | 39 => ⟨S4x64x64x256, .f32⟩
  | 40 => ⟨S1x1x1x256, .f32⟩
  | 41 => ⟨S4x64x64x256, .f32⟩
  | 42 => ⟨S4x64x64x256, .f32⟩
  | 43 => ⟨S4x4096x256, .f32⟩
  | 44 => ⟨S4x64x64x256, .f32⟩
  | 45 => ⟨S4x4096x256, .f32⟩
  | 46 => ⟨S8x4096x256, .f32⟩
  | 47 => ⟨S8x4096x1024, .f32⟩
  | 48 => ⟨S8x4096x512, .f32⟩
  | 49 => ⟨S8x4096x512, .f32⟩
  | 50 => ⟨S_, .i32⟩
  | 51 => ⟨S_, .f32⟩
  | 52 => ⟨S8x4099x512, .f32⟩
  | 53 => ⟨S8x4096x512, .f32⟩
  | 54 => ⟨S512x1, .f32⟩
  | 55 => ⟨S512, .f32⟩
  | 56 => ⟨S1x1x512, .f32⟩
  | 57 => ⟨S8x4096x512, .f32⟩
  | 58 => ⟨S8x4096x512, .f32⟩
  | 59 => ⟨S_, .f32⟩
  | 60 => ⟨S8x4096x512, .f32⟩
  | 61 => ⟨S8x4096x512, .f32⟩
  | 62 => ⟨S8x4096x512, .f32⟩
  | 63 => ⟨S512x1, .f32⟩
  | 64 => ⟨S512, .f32⟩
  | 65 => ⟨S1x1x512, .f32⟩
  | 66 => ⟨S8x4096x512, .f32⟩
  | 67 => ⟨S8x4096x512, .f32⟩
  | 68 => ⟨S8x4096x512, .f32⟩
  | 69 => ⟨S8x4096x512, .f32⟩
  | 70 => ⟨S512x1, .f32⟩
  | 71 => ⟨S512, .f32⟩
  | 72 => ⟨S1x1x512, .f32⟩
  | 73 => ⟨S8x4096x512, .f32⟩
  | 74 => ⟨S8x4096x512, .f32⟩
  | 75 => ⟨S8x4096x512, .f32⟩
  | 76 => ⟨S8x4096x512, .f32⟩
  | 77 => ⟨S512x1, .f32⟩
  | 78 => ⟨S512, .f32⟩
  | 79 => ⟨S1x1x512, .f32⟩
  | 80 => ⟨S8x4096x512, .f32⟩
  | 81 => ⟨S8x4096x512, .f32⟩
  | 82 => ⟨S8x4096x512, .f32⟩
  | 83 => ⟨S1x1x512, .f32⟩
  | 84 => ⟨S8x4096x512, .f32⟩
  | 85 => ⟨S8x4096x512, .f32⟩
  | 86 => ⟨S8x4096x512, .f32⟩
  | 87 => ⟨S8x4096x512, .f32⟩
  | 88 => ⟨S_, .f32⟩
  | 89 => ⟨S8x4096x512, .f32⟩
  | 90 => ⟨S8x4096x512, .f32⟩
  | 91 => ⟨S_, .f32⟩
  | 92 => ⟨S8x4096x512, .f32⟩
  | 93 => ⟨S8x4096x512, .f32⟩
  | 94 => ⟨S8x4096x512, .f32⟩
  | 95 => ⟨S8x4096x144, .f32⟩
  | 96 => ⟨S8x4096x16, .f32⟩
  | 97 => ⟨S8x4096x64, .f32⟩
  | 98 => ⟨S8x4096x64, .f32⟩
  | 99 => ⟨S8x4096x512, .f32⟩
  | 100 => ⟨S1x1x512, .f32⟩
  | 101 => ⟨S8x4096x512, .f32⟩
  | 102 => ⟨S8x4096x512, .f32⟩
  | 103 => ⟨S_, .f32⟩
  | 104 => ⟨S8x4096x512, .f32⟩
  | 105 => ⟨S8x4096x512, .f32⟩
  | 106 => ⟨S8x4096x512, .f32⟩
  | 107 => ⟨S8x4096x512, .f32⟩
  | 108 => ⟨S8x4096x512, .i1⟩
  | 109 => ⟨S8x4096x512, .f32⟩
  | 110 => ⟨S8x4096x512, .f32⟩
  | 111 => ⟨S8x4096x512, .f32⟩
  | 112 => ⟨S8x4096x512, .f32⟩
  | 113 => ⟨S8x4096x512, .f32⟩
  | 114 => ⟨S8x4096x512, .f32⟩
  | 115 => ⟨S8x4096x512, .f32⟩
  | 116 => ⟨S8x4096x512, .f32⟩
  | 117 => ⟨S512x64, .f32⟩
  | 118 => ⟨S512x64, .f32⟩
  | 119 => ⟨S_, .f32⟩
  | 120 => ⟨S8x512x64, .f32⟩
  | 121 => ⟨S4096x8x512, .f32⟩
  | 122 => ⟨S4096x8x512, .f32⟩
  | 123 => ⟨S4096x8x64, .f32⟩
  | 124 => ⟨S4096x8x64, .f32⟩
  | 125 => ⟨S4096x8x512, .f32⟩
  | 126 => ⟨S_, .f32⟩
  | 127 => ⟨S4096x8x512, .f32⟩
  | _ => ⟨S4x64x64x256, .f32⟩

abbrev hbmTy0_1 (i : Nat) : BufTy := match i % 128 with
  | 0 => ⟨S_, .i32⟩
  | 1 => ⟨S4096x8x512, .f32⟩
  | 2 => ⟨S4096x8x512, .f32⟩
  | 3 => ⟨S4096x8x64, .f32⟩
  | 4 => ⟨S4096x8x64, .f32⟩
  | 5 => ⟨S4096x8x512, .f32⟩
  | 6 => ⟨S512x64, .f32⟩
  | 7 => ⟨S512, .f32⟩
  | 8 => ⟨S_, .i32⟩
  | 9 => ⟨S8x512x64, .f32⟩
  | 10 => ⟨S4096x8x512, .f32⟩
  | 11 => ⟨S_, .i32⟩
  | 12 => ⟨S_, .i1⟩
  | 13 => ⟨S_, .i32⟩
  | 14 => ⟨S_, .i32⟩
  | 15 => ⟨S1x8x512, .f32⟩
  | 16 => ⟨S8x512, .f32⟩
  | 17 => ⟨S_, .i32⟩
  | 18 => ⟨S_, .i32⟩
  | 19 => ⟨S1x8x512, .f32⟩
  | 20 => ⟨S8x512, .f32⟩
  | 21 => ⟨S_, .i32⟩
  | 22 => ⟨S_, .i32⟩
  | 23 => ⟨S1x8x64, .f32⟩
  | 24 => ⟨S8x64, .f32⟩
  | 25 => ⟨S_, .i32⟩
  | 26 => ⟨S_, .i32⟩
  | 27 => ⟨S1x8x64, .f32⟩
  | 28 => ⟨S8x64, .f32⟩
  | 29 => ⟨S_, .i32⟩
  | 30 => ⟨S_, .i32⟩
  | 31 => ⟨S1x8x512, .f32⟩
  | 32 => ⟨S8x512, .f32⟩
  | 33 => ⟨S8x512x1, .f32⟩
  | 34 => ⟨S1x512x64, .f32⟩
  | 35 => ⟨S8x512x64, .f32⟩
  | 36 => ⟨S8x512x64, .f32⟩
  | 37 => ⟨S8x512x64, .f32⟩
  | 38 => ⟨S8x512x64, .f32⟩
  | 39 => ⟨S8x512x64, .f32⟩
  | 40 => ⟨S8x512, .f32⟩
  | 41 => ⟨S8x512x1, .f32⟩
  | 42 => ⟨S8x1x64, .f32⟩
  | 43 => ⟨S8x512x64, .f32⟩
  | 44 => ⟨S8x512x64, .f32⟩
  | 45 => ⟨S8x512x64, .f32⟩
  | 46 => ⟨S8x512x64, .f32⟩
  | 47 => ⟨S8x512, .f32⟩
  | 48 => ⟨S1x512, .f32⟩
  | 49 => ⟨S8x512, .f32⟩
  | 50 => ⟨S8x512, .f32⟩
  | 51 => ⟨S8x512, .f32⟩
  | 52 => ⟨S8x512, .f32⟩
  | 53 => ⟨S8x512, .f32⟩
  | 54 => ⟨S_, .f32⟩
  | 55 => ⟨S8x512, .f32⟩
  | 56 => ⟨S8x512, .f32⟩
  | 57 => ⟨S_, .f32⟩
  | 58 => ⟨S8x512, .f32⟩
  | 59 => ⟨S8x512, .f32⟩
  | 60 => ⟨S8x512, .f32⟩
  | 61 => ⟨S8x512, .f32⟩
  | 62 => ⟨S1x8x512, .f32⟩
  | 63 => ⟨S_, .i32⟩
  | 64 => ⟨S_, .i32⟩
  | 65 => ⟨S4096x8x512, .f32⟩
  | 66 => ⟨S_, .i32⟩
  | 67 => ⟨S_, .i32⟩
  | 68 => ⟨S8x4096x512, .f32⟩
  | 69 => ⟨S8x4096x256, .f32⟩
  | 70 => ⟨S_, .f32⟩
  | 71 => ⟨S8x4096, .f32⟩
  | 72 => ⟨S8x4096x1, .f32⟩
  | 73 => ⟨S_, .f32⟩
  | 74 => ⟨S8x4096x1, .f32⟩
  | 75 => ⟨S8x4096x1, .f32⟩
  | 76 => ⟨S8x4096x256, .f32⟩
  | 77 => ⟨S8x4096x256, .f32⟩
  | 78 => ⟨S8x4096x256, .f32⟩
  | 79 => ⟨S_, .f32⟩
  | 80 => ⟨S8x4096, .f32⟩
  | 81 => ⟨S8x4096x1, .f32⟩
  | 82 => ⟨S_, .f32⟩
  | 83 => ⟨S8x4096x1, .f32⟩
  | 84 => ⟨S8x4096x1, .f32⟩
  | 85 => ⟨S8x4096x256, .f32⟩
  | 86 => ⟨S8x4096x256, .f32⟩
  | 87 => ⟨S_, .f32⟩
  | 88 => ⟨S8x4096x1, .f32⟩
  | 89 => ⟨S8x4096x1, .f32⟩
  | 90 => ⟨S8x4096x1, .f32⟩
  | 91 => ⟨S8x4096x256, .f32⟩
  | 92 => ⟨S8x4096x256, .f32⟩
  | 93 => ⟨S1x1x256, .f32⟩
  | 94 => ⟨S8x4096x256, .f32⟩
  | 95 => ⟨S8x4096x256, .f32⟩
  | 96 => ⟨S1x1x256, .f32⟩
  | 97 => ⟨S8x4096x256, .f32⟩
  | 98 => ⟨S8x4096x256, .f32⟩
  | 99 => ⟨S4x4096x256, .f32⟩
  | 100 => ⟨S4x4096x256, .f32⟩
  | 101 => ⟨S4x64x64x256, .f32⟩
  | 102 => ⟨S4x64x64x256, .f32⟩
  | 103 => ⟨S4x64x64x256, .f32⟩
  | 104 => ⟨S4x64x64x256, .f32⟩
  | 105 => ⟨S4x64x64x256, .f32⟩
  | _ => ⟨S4x64x64x256, .f32⟩

abbrev hbmTy (i : Nat) : BufTy := match i / 128 with
  | 0 => hbmTy0_0 i
  | 1 => hbmTy0_1 i
  | _ => ⟨S4x64x64x256, .f32⟩

abbrev bufTy : (tb : Table) → Fin (tcTables nBuf tb) → BufTy
  | .hbm, ⟨i, _⟩ => hbmTy i
  | _, _ => ⟨S4x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_5 : Ref sig .tc := ⟨.hbm, 88, rfl⟩
abbrev main_v66 : Ref sig .tc := ⟨.hbm, 89, rfl⟩
abbrev main_v67 : Ref sig .tc := ⟨.hbm, 90, rfl⟩
abbrev main_cst_6 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_7 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_8 : Ref sig .tc := ⟨.hbm, 126, rfl⟩
abbrev main_v88 : Ref sig .tc := ⟨.hbm, 127, rfl⟩
abbrev main_c_9 : Ref sig .tc := ⟨.hbm, 128, rfl⟩
abbrev main_v89_0 : Ref sig .tc := ⟨.hbm, 129, rfl⟩
abbrev main_v89_1 : Ref sig .tc := ⟨.hbm, 130, rfl⟩
abbrev main_v89_2 : Ref sig .tc := ⟨.hbm, 131, rfl⟩
abbrev main_v89_3 : Ref sig .tc := ⟨.hbm, 132, rfl⟩
abbrev main_v89_4 : Ref sig .tc := ⟨.hbm, 133, rfl⟩
abbrev main_v89_5 : Ref sig .tc := ⟨.hbm, 134, rfl⟩
abbrev main_v89_6 : Ref sig .tc := ⟨.hbm, 135, rfl⟩
abbrev main_v89_7 : Ref sig .tc := ⟨.hbm, 136, rfl⟩
abbrev main_v89_8 : Ref sig .tc := ⟨.hbm, 137, rfl⟩
abbrev main_v89_9 : Ref sig .tc := ⟨.hbm, 138, rfl⟩
abbrev main_while0c_c_24 : Ref sig .tc := ⟨.hbm, 139, rfl⟩
abbrev main_while0c_v123 : Ref sig .tc := ⟨.hbm, 140, rfl⟩
abbrev main_while0b_call2_c : Ref sig .tc := ⟨.hbm, 141, rfl⟩
abbrev main_while0b_call2_c_0 : Ref sig .tc := ⟨.hbm, 142, rfl⟩
abbrev main_while0b_call2_v0 : Ref sig .tc := ⟨.hbm, 143, rfl⟩
abbrev main_while0b_v123 : Ref sig .tc := ⟨.hbm, 144, rfl⟩
abbrev main_while0b_call3_c : Ref sig .tc := ⟨.hbm, 145, rfl⟩
abbrev main_while0b_call3_c_0 : Ref sig .tc := ⟨.hbm, 146, rfl⟩
abbrev main_while0b_call3_v0 : Ref sig .tc := ⟨.hbm, 147, rfl⟩
abbrev main_while0b_v124 : Ref sig .tc := ⟨.hbm, 148, rfl⟩
abbrev main_while0b_call4_c : Ref sig .tc := ⟨.hbm, 149, rfl⟩
abbrev main_while0b_call4_c_0 : Ref sig .tc := ⟨.hbm, 150, rfl⟩
abbrev main_while0b_call4_v0 : Ref sig .tc := ⟨.hbm, 151, rfl⟩
abbrev main_while0b_v125 : Ref sig .tc := ⟨.hbm, 152, rfl⟩
abbrev main_while0b_call5_c : Ref sig .tc := ⟨.hbm, 153, rfl⟩
abbrev main_while0b_call5_c_0 : Ref sig .tc := ⟨.hbm, 154, rfl⟩
abbrev main_while0b_call5_v0 : Ref sig .tc := ⟨.hbm, 155, rfl⟩
abbrev main_while0b_v126 : Ref sig .tc := ⟨.hbm, 156, rfl⟩
abbrev main_while0b_call6_c : Ref sig .tc := ⟨.hbm, 157, rfl⟩
abbrev main_while0b_call6_c_0 : Ref sig .tc := ⟨.hbm, 158, rfl⟩
abbrev main_while0b_call6_v0 : Ref sig .tc := ⟨.hbm, 159, rfl⟩
abbrev main_while0b_v127 : Ref sig .tc := ⟨.hbm, 160, rfl⟩
abbrev main_while0b_v128 : Ref sig .tc := ⟨.hbm, 161, rfl⟩
abbrev main_while0b_v129 : Ref sig .tc := ⟨.hbm, 162, rfl⟩
abbrev main_while0b_v130 : Ref sig .tc := ⟨.hbm, 163, rfl⟩
abbrev main_while0b_v131 : Ref sig .tc := ⟨.hbm, 164, rfl⟩
abbrev main_while0b_v132 : Ref sig .tc := ⟨.hbm, 165, rfl⟩
abbrev main_while0b_v133 : Ref sig .tc := ⟨.hbm, 166, rfl⟩
abbrev main_while0b_v134 : Ref sig .tc := ⟨.hbm, 167, rfl⟩
abbrev main_while0b_v135 : Ref sig .tc := ⟨.hbm, 168, rfl⟩
abbrev main_while0b_v136 : Ref sig .tc := ⟨.hbm, 169, rfl⟩
abbrev main_while0b_v137 : Ref sig .tc := ⟨.hbm, 170, rfl⟩
abbrev main_while0b_v138 : Ref sig .tc := ⟨.hbm, 171, rfl⟩
abbrev main_while0b_v139 : Ref sig .tc := ⟨.hbm, 172, rfl⟩
abbrev main_while0b_v140 : Ref sig .tc := ⟨.hbm, 173, rfl⟩
abbrev main_while0b_v141 : Ref sig .tc := ⟨.hbm, 174, rfl⟩
abbrev main_while0b_v142 : Ref sig .tc := ⟨.hbm, 175, rfl⟩
abbrev main_while0b_v143 : Ref sig .tc := ⟨.hbm, 176, rfl⟩
abbrev main_while0b_v144 : Ref sig .tc := ⟨.hbm, 177, rfl⟩
abbrev main_while0b_v145 : Ref sig .tc := ⟨.hbm, 178, rfl⟩
abbrev main_while0b_v146 : Ref sig .tc := ⟨.hbm, 179, rfl⟩
abbrev main_while0b_v147 : Ref sig .tc := ⟨.hbm, 180, rfl⟩
abbrev main_while0b_v148 : Ref sig .tc := ⟨.hbm, 181, rfl⟩
abbrev main_while0b_cst_24 : Ref sig .tc := ⟨.hbm, 182, rfl⟩
abbrev main_while0b_v149 : Ref sig .tc := ⟨.hbm, 183, rfl⟩
abbrev main_while0b_v150 : Ref sig .tc := ⟨.hbm, 184, rfl⟩
abbrev main_while0b_cst_25 : Ref sig .tc := ⟨.hbm, 185, rfl⟩
abbrev main_while0b_v151 : Ref sig .tc := ⟨.hbm, 186, rfl⟩
abbrev main_while0b_v152 : Ref sig .tc := ⟨.hbm, 187, rfl⟩
abbrev main_while0b_v153 : Ref sig .tc := ⟨.hbm, 188, rfl⟩
abbrev main_while0b_v154 : Ref sig .tc := ⟨.hbm, 189, rfl⟩
abbrev main_while0b_call7_v0 : Ref sig .tc := ⟨.hbm, 190, rfl⟩
abbrev main_while0b_call7_c : Ref sig .tc := ⟨.hbm, 191, rfl⟩
abbrev main_while0b_call7_c_0 : Ref sig .tc := ⟨.hbm, 192, rfl⟩
abbrev main_while0b_v155 : Ref sig .tc := ⟨.hbm, 193, rfl⟩
abbrev main_while0b_c_26 : Ref sig .tc := ⟨.hbm, 194, rfl⟩
abbrev main_while0b_v156 : Ref sig .tc := ⟨.hbm, 195, rfl⟩
abbrev main_v90 : Ref sig .tc := ⟨.hbm, 196, rfl⟩
abbrev main_v91 : Ref sig .tc := ⟨.hbm, 197, rfl⟩
abbrev main_cst_10 : Ref sig .tc := ⟨.hbm, 198, rfl⟩
abbrev main_v92 : Ref sig .tc := ⟨.hbm, 199, rfl⟩
abbrev main_v93 : Ref sig .tc := ⟨.hbm, 200, rfl⟩
abbrev main_cst_11 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_cst_12 : Ref sig .tc := ⟨.hbm, 207, rfl⟩
abbrev main_v99 : Ref sig .tc := ⟨.hbm, 208, rfl⟩
abbrev main_v100 : Ref sig .tc := ⟨.hbm, 209, rfl⟩
abbrev main_cst_13 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_cst_14 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩

abbrev nD : Nat := 1
abbrev τ : Topo := Topo.v7x

variable {F : FTy → Type} [FloatOps F]

abbrev main_while0_count : Scf.Loop 32 := ⟨0#32, 4096#32, 1#32⟩
-- ==== Proof.Block.lean ====
module

public import proofs.«01_k».proof.Proof.Gen.KernelIdeal.Skeleton
public import Idealize.ShloMosaic.Lib.Pipeline.ValueKit

@[expose] public section

set_option maxRecDepth 16384

noncomputable section

/-! What one grid point of the kernel computes, as a function of what it loads: the tiles of the normalised rows and their projection, the
convolution, the step sizes, the 512 steps of the recurrence and the rows written out. Every definition is the kernel's own
sequence of operations. -/

namespace Cert.KernelIdeal.Block

open Idealize.ShloMosaic Cert.KernelIdeal Cert.KernelIdeal.Gen

variable {F : FTy → Type} [FloatOps F] [Named F]

/-- Rows `k % 512` and so on are in range. -/
theorem sl_row (k : ℕ) : S512x512.Slices ![k % 512, 0] S1x512 :=
  ⟨rfl, Fin.forall_fin_two.mpr ⟨Nat.succ_le_of_lt (Nat.mod_lt _ (by decide)), Nat.le_refl _⟩⟩
/-- One row of the output factors is a slice of them. -/
theorem sl_rowC (k : ℕ) : S512x64.Slices ![k % 512, 0] S1x64 :=
  ⟨rfl, Fin.forall_fin_two.mpr ⟨Nat.succ_le_of_lt (Nat.mod_lt _ (by decide)), Nat.le_refl _⟩⟩
/-- One column of the input factors is a slice of them. -/
theorem sl_col (k : ℕ) : S64x512.Slices ![0, k % 512] S64x1 :=
  ⟨rfl, Fin.forall_fin_two.mpr ⟨Nat.le_refl _, Nat.succ_le_of_lt (Nat.mod_lt _ (by decide))⟩⟩

/-- Tile `t` of the rows lies in the window. -/
theorem in_x (t : ℕ) : ∀ a, (![0, 128 * (t % 4), 0] : Fin 3 → ℕ) a + S1x128x256.size a ≤ S1x512x256.size a :=
  Fin.forall_fin_succ.mpr ⟨Nat.le_refl _, Fin.forall_fin_two.mpr ⟨(by have := Nat.mod_lt t (show 0 < 4 by decide); show 128 * (t % 4) + 128 ≤ 512; omega), Nat.le_refl _⟩⟩
/-- Tile `t`, shifted by `j` rows, lies in the convolution's buffer. -/
theorem in_c (t : ℕ) (j : ℕ) (hj : j ≤ 8) : ∀ a, (![128 * (t % 4) + j, 0] : Fin 2 → ℕ) a + S128x512.size a ≤ S520x512.size a :=
  Fin.forall_fin_two.mpr ⟨(by have := Nat.mod_lt t (show 0 < 4 by decide); show 128 * (t % 4) + j + 128 ≤ 520; omega), Nat.le_refl _⟩
/-- Tile `t` lies in a 512-column scratch buffer. -/
theorem in_r (t : ℕ) : ∀ a, (![128 * (t % 4), 0] : Fin 2 → ℕ) a + S128x512.size a ≤ S512x512.size a :=
  Fin.forall_fin_two.mpr ⟨(by have := Nat.mod_lt t (show 0 < 4 by decide); show 128 * (t % 4) + 128 ≤ 512; omega), Nat.le_refl _⟩
/-- Tile `t` lies in a 64-column scratch buffer. -/
theorem in_b (t : ℕ) : ∀ a, (![128 * (t % 4), 0] : Fin 2 → ℕ) a + S128x64.size a ≤ S512x64.size a :=
  Fin.forall_fin_two.mpr ⟨(by have := Nat.mod_lt t (show 0 < 4 by decide); show 128 * (t % 4) + 128 ≤ 512; omega), Nat.le_refl _⟩
/-- Eight rows from row `8 g` lie in the buffer of outputs. -/
theorem in_y (g : ℕ) : ∀ a, (![8 * (g % 64), 0] : Fin 2 → ℕ) a + S8x512.size a ≤ S512x512.size a :=
  Fin.forall_fin_two.mpr ⟨(by have := Nat.mod_lt g (show 0 < 64 by decide); show 8 * (g % 64) + 8 ≤ 512; omega), Nat.le_refl _⟩

/-- What a grid point loads: tile `t` of its block of rows, the fifteen whole arrays, the state and the rows before the block, and the
buffers the body writes and reads back. -/
structure Loads (F : FTy → Type) where
  xt : ℕ → Vec F S1x128x256 .f32
  win : Vec F S256x1024 .f32
  wxdt : Vec F S512x16 .f32
  wxb : Vec F S512x64 .f32
  wxc : Vec F S512x64 .f32
  wdt : Vec F S16x512 .f32
  bdt : Vec F S1x512 .f32
  at0 : Vec F S64x512 .f32
  cw0 : Vec F S1x512 .f32
  cw1 : Vec F S1x512 .f32
  cw2 : Vec F S1x512 .f32
  cw3 : Vec F S1x512 .f32
  cb : Vec F S1x512 .f32
  dpar : Vec F S1x512 .f32
  ln1w : Vec F S1x256 .f32
  ln1b : Vec F S1x256 .f32
  ln2w : Vec F S1x256 .f32
  ln2b : Vec F S1x256 .f32
  wout : Vec F S512x256 .f32
  h0 : Vec F S64x512 .f32
  head : Vec F S8x512 .f32
  m20 : Memref sig .tc .vmem S520x512 .f32
  m21 : Memref sig .tc .vmem S512x512 .f32
  m22 : Memref sig .tc .vmem S512x512 .f32
  m23 : Memref sig .tc .vmem S512x512 .f32
  m24 : Memref sig .tc .vmem S512x512 .f32
  m25 : Memref sig .tc .vmem S512x64 .f32
  m26 : Memref sig .tc .vmem S512x64 .f32

/-- Layer normalisation of 128 rows of 256 entries. -/
def ln (v : FVec F S128x256 .f32) (w b : Vec F S1x256 .f32) : FVec F S128x256 .f32 :=
  have c256 : FVec F S128x1 .f32 := broadcast S128x1 (Scalar.ofBits .f32 0x43800000#32)
  have mu : FVec F S128x1 .f32 :=
    divf (shapeCast S128x1 (multiReduction .add [1] S128 v 0x00000000#32 reduces_S128x256_S128 (.inl rfl) rfl) shapeCasts_S128_S128x1) c256
  have d : FVec F S128x256 .f32 := subf v (broadcastTo S128x256 mu broadcasts_S128x1_S128x256)
  have var : FVec F S128x1 .f32 :=
    divf (shapeCast S128x1 (multiReduction .add [1] S128 (mulf d d) 0x00000000#32 reduces_S128x256_S128 (.inl rfl) rfl) shapeCasts_S128_S128x1) c256
  have rs : FVec F S128x1 .f32 := rsqrt (addf var (broadcast S128x1 (Scalar.ofBits .f32 0x358637BD#32)))
  addf
    (mulf (mulf d (broadcastTo S128x256 rs broadcasts_S128x1_S128x256))
      (broadcastTo S128x256 (shapeCast S1x256 w shapeCasts_S1x256_S1x256) broadcasts_S1x256_S128x256))
    (broadcastTo S128x256 (shapeCast S1x256 b shapeCasts_S1x256_S1x256) broadcasts_S1x256_S128x256)

/-- Tile `t` of the normalised rows times the input projection: 1024 entries to a row. -/
def xz (S : Loads F) (t : ℕ) : FVec F S128x1024 .f32 :=
  matmul dot_S128x256_S256x1024_S128x1024_1_0_0_1_n_n none
    (ln (shapeCast S128x256 (S.xt t) shapeCasts_S1x128x256_S128x256) S.ln1w S.ln1b)
    (shapeCast S256x1024 S.win shapeCasts_S256x1024_S256x1024) (constant S128x1024 .f32 0x00000000#32)

/-- `v / (1 + exp (-v))`. -/
def silu (v : FVec F S128x512 .f32) : FVec F S128x512 .f32 :=
  have one : FVec F S128x512 .f32 := broadcast S128x512 (Scalar.ofBits .f32 0x3F800000#32)
  mulf v (divf one (addf one (exp (subf (broadcast S128x512 (Scalar.ofBits .f32 0x00000000#32)) v))))

/-- The left half of tile `t`, which the convolution reads. -/
def xin (S : Loads F) (t : ℕ) : FVec F S128x512 .f32 :=
  shapeCast S128x512 (extractStridedSlice S128x512 ![0, 0] (xz S t) slices_S128x1024_o0_0_S128x512) shapeCasts_S128x512_S128x512

/-- The right half of tile `t`, through `silu`: the gate. -/
def gate (S : Loads F) (t : ℕ) : FVec F S128x512 .f32 :=
  shapeCast S128x512 (silu (extractStridedSlice S128x512 ![0, 512] (xz S t) slices_S128x1024_o0_512_S128x512)) shapeCasts_S128x512_S128x512

/-- A tile's place in the buffer of the convolution's rows. -/
def pc (S : Loads F) (t : ℕ) : View.Piece (Elt F) S520x512 .f32 :=
  ⟨Rect.unit ![128 * (t % 4) + 8, 0] S128x512.size (in_c t 8 (by decide)), xin S t⟩

/-- What is written into the buffer of the convolution's rows, the last first. -/
def convL (S : Loads F) : List (View.Piece (Elt F) S520x512 .f32) :=
  [pc S 3, pc S 2, pc S 1, pc S 0, ⟨Rect.unit ![0, 0] S8x512.size inb_S520x512_S8x512_0_0, S.head⟩]

/-- Four shifted products of the convolution's rows, the bias, and `silu`. -/
def conv (S : Loads F) (t : ℕ) : FVec F S128x512 .f32 :=
  have tap (w : Vec F S1x512 .f32) (j : ℕ) (hj : j ≤ 8) : FVec F S128x512 .f32 :=
    mulf (broadcastTo S128x512 (shapeCast S1x512 w shapeCasts_S1x512_S1x512) broadcasts_S1x512_S128x512)
      (S.m20.view.readCov (convL S) (Rect.unit (s := S520x512) ![128 * (t % 4) + j, 0] S128x512.size (in_c t j hj)).toLoadRect)
  shapeCast S128x512
    (silu (addf (addf (addf (addf (tap S.cw0 5 (by decide)) (tap S.cw1 6 (by decide))) (tap S.cw2 7 (by decide))) (tap S.cw3 8 (by decide)))
      (broadcastTo S128x512 (shapeCast S1x512 S.cb shapeCasts_S1x512_S1x512) broadcasts_S1x512_S128x512)))
    shapeCasts_S128x512_S128x512

/-- The four tiles of a 512-row buffer, the last first. -/
def tiles (f : ℕ → FVec F S128x512 .f32) : List (View.Piece (Elt F) S512x512 .f32) :=
  have p (t : ℕ) : View.Piece (Elt F) S512x512 .f32 := ⟨Rect.unit ![128 * (t % 4), 0] S128x512.size (in_r t), f t⟩
  [p 3, p 2, p 1, p 0]

/-- The four tiles written to a 64-column buffer, the last first. -/
def tilesB (f : ℕ → FVec F S128x64 .f32) : List (View.Piece (Elt F) S512x64 .f32) :=
  have p (t : ℕ) : View.Piece (Elt F) S512x64 .f32 := ⟨Rect.unit ![128 * (t % 4), 0] S128x64.size (in_b t), f t⟩
  [p 3, p 2, p 1, p 0]

/-- Tile `t` of the convolved rows as it is read back. -/
def ut (S : Loads F) (t : ℕ) : Vec F S128x512 .f32 :=
  S.m21.view.readCov (tiles (conv S)) (Rect.unit (s := S512x512) ![128 * (t % 4), 0] S128x512.size (in_r t)).toLoadRect

/-- Tile `t` of the input and of the output vectors of the recurrence. -/
def bT (S : Loads F) (w : Vec F S512x64 .f32) (t : ℕ) : FVec F S128x64 .f32 :=
  shapeCast S128x64
    (matmul dot_S128x512_S512x64_S128x64_1_0_0_1_n_n none (ut S t) (shapeCast S512x64 w shapeCasts_S512x64_S512x64) (constant S128x64 .f32 0x00000000#32))
    shapeCasts_S128x64_S128x64

/-- Tile `t` of the step sizes: `softplus` of a product of two thin matrices plus a bias. -/
def dtT (S : Loads F) (t : ℕ) : FVec F S128x512 .f32 :=
  have zero : FVec F S128x512 .f32 := broadcast S128x512 (Scalar.ofBits .f32 0x00000000#32)
  have p : FVec F S128x16 .f32 := matmul dot_S128x512_S512x16_S128x16_1_0_0_1_n_n none (ut S t) (shapeCast S512x16 S.wxdt shapeCasts_S512x16_S512x16)
    (constant S128x16 .f32 0x00000000#32)
  have v : FVec F S128x512 .f32 :=
    addf (matmul dot_S128x16_S16x512_S128x512_1_0_0_1_n_n none p (shapeCast S16x512 S.wdt shapeCasts_S16x512_S16x512) (constant S128x512 .f32 0x00000000#32))
      (broadcastTo S128x512 (shapeCast S1x512 S.bdt shapeCasts_S1x512_S1x512) broadcasts_S1x512_S128x512)
  shapeCast S128x512 (addf (maximumf v zero) (log1p (exp (subf zero (absf v))))) shapeCasts_S128x512_S128x512

/-- The step sizes, the convolved rows, the input and the output vectors of the block, as they are read back. -/
def dtA (S : Loads F) : Vec F S512x512 .f32 :=
  S.m22.view.readCov (tiles (dtT S)) (Rect.unit (s := S512x512) k0_off1 S512x512.size k0_off1_inb).toLoadRect
/-- The convolved rows. -/
def uA (S : Loads F) : Vec F S512x512 .f32 :=
  S.m21.view.readCov (tiles (conv S)) (Rect.unit (s := S512x512) k0_off1 S512x512.size k0_off1_inb).toLoadRect
/-- The input factors. -/
def bA (S : Loads F) : Vec F S512x64 .f32 :=
  S.m25.view.readCov (tilesB (bT S S.wxb)) (Rect.unit (s := S512x64) k0_off2 S512x64.size k0_off2_inb).toLoadRect
/-- The output factors. -/
def cA (S : Loads F) : Vec F S512x64 .f32 :=
  S.m26.view.readCov (tilesB (bT S S.wxc)) (Rect.unit (s := S512x64) k0_off2 S512x64.size k0_off2_inb).toLoadRect

/-- The decay rates times `log2 e`, the step sizes times the convolved rows, and the input vectors as columns. -/
def atA (S : Loads F) : FVec F S64x512 .f32 :=
  mulf (shapeCast S64x512 S.at0 shapeCasts_S64x512_S64x512) (broadcast S64x512 (Named.named κ "log2e" 0x3FB8AA3B#32))
/-- Step size times convolved row. -/
def wA (S : Loads F) : FVec F S512x512 .f32 := mulf (dtA S) (uA S)
/-- The input factors, transposed. -/
def btA (S : Loads F) : FVec F S64x512 .f32 := transpose S64x512 [1, 0] (bA S) transposes_S512x64_p1_0_S64x512

/-- The decay of the state at a step: 16 exponentials, and the other 48 rows as products of those. -/
def decay (a : FVec F S64x512 .f32) (dt : FVec F S1x512 .f32) : FVec F S64x512 .f32 :=
  have t01 : FVec F S16x512 .f32 :=
    exp2 (mulf (extractStridedSlice S16x512 ![0, 0] a slices_S64x512_o0_0_S16x512) (broadcastTo S16x512 dt broadcasts_S1x512_S16x512))
  have t23 : FVec F S16x512 .f32 := mulf t01 (broadcastTo S16x512 (extractStridedSlice S1x512 ![15, 0] t01 slices_S16x512_o15_0_S1x512) broadcasts_S1x512_S16x512)
  have t03 : FVec F S32x512 .f32 := concatenate S32x512 0 [⟨S16x512, t01⟩, ⟨S16x512, t23⟩] concatenates_S16x512_S16x512_S32x512_d0
  have t47 : FVec F S32x512 .f32 := mulf t03 (broadcastTo S32x512 (extractStridedSlice S1x512 ![15, 0] t23 slices_S16x512_o15_0_S1x512) broadcasts_S1x512_S32x512)
  concatenate S64x512 0 [⟨S32x512, t03⟩, ⟨S32x512, t47⟩] concatenates_S32x512_S32x512_S64x512_d0

/-- One step of the recurrence. -/
def step (S : Loads F) (k : ℕ) (h : FVec F S64x512 .f32) : FVec F S64x512 .f32 :=
  addf
    (mulf (decay (atA S) (extractStridedSlice S1x512 ![k % 512, 0] (dtA S) (sl_row k))) h)
    (mulf (broadcastTo S64x512 (extractStridedSlice S64x1 ![0, k % 512] (btA S) (sl_col k)) broadcasts_S64x1_S64x512)
      (broadcastTo S64x512 (extractStridedSlice S1x512 ![k % 512, 0] (wA S) (sl_row k)) broadcasts_S1x512_S64x512))

/-- The state after `k` steps of the block. -/
def hs (S : Loads F) (k : ℕ) : FVec F S64x512 .f32 :=
  Nat.rec (motive := fun _ => FVec F S64x512 .f32) S.h0 (fun k h => step S k h) k

/-- The row the step number `k` writes. -/
def row (S : Loads F) (k : ℕ) : FVec F S1x512 .f32 :=
  matmul dot_S1x64_S64x512_S1x512_1_0_0_1_n_n none (extractStridedSlice S1x64 ![k % 512, 0] (cA S) (sl_rowC k)) (hs S (k + 1)) (constant S1x512 .f32 0x00000000#32)

/-- Eight rows, written together. -/
def py (S : Loads F) (g : ℕ) : View.Piece (Elt F) S512x512 .f32 :=
  ⟨Rect.unit ![8 * (g % 64), 0] S8x512.size (in_y g),
    shapeCast S8x512
      (concatenate S8x512 0 [⟨S1x512, row S (8 * g)⟩, ⟨S1x512, row S (8 * g + 1)⟩, ⟨S1x512, row S (8 * g + 2)⟩, ⟨S1x512, row S (8 * g + 3)⟩,
        ⟨S1x512, row S (8 * g + 4)⟩, ⟨S1x512, row S (8 * g + 5)⟩, ⟨S1x512, row S (8 * g + 6)⟩, ⟨S1x512, row S (8 * g + 7)⟩]
        concatenates_S1x512_S1x512_S1x512_S1x512_S1x512_S1x512_S1x512_S1x512_S8x512_d0) shapeCasts_S8x512_S8x512⟩

/-- The first `8 n` rows of the recurrence's output, the last piece first. -/
def yL (S : Loads F) (n : ℕ) : List (View.Piece (Elt F) S512x512 .f32) :=
  Nat.rec (motive := fun _ => List (View.Piece (Elt F) S512x512 .f32)) [] (fun g L => py S g :: L) n

/-- Tile `t` of the result: the gated rows times the output projection, normalised. -/
def out (S : Loads F) (t : ℕ) : FVec F S1x128x256 .f32 :=
  have y : FVec F S128x512 .f32 := addf (S.m24.view.readCov (yL S 64) (Rect.unit (s := S512x512) ![128 * (t % 4), 0] S128x512.size (in_r t)).toLoadRect)
    (mulf (ut S t) (broadcastTo S128x512 (shapeCast S1x512 S.dpar shapeCasts_S1x512_S1x512) broadcasts_S1x512_S128x512))
  have o : FVec F S128x256 .f32 := matmul dot_S128x512_S512x256_S128x256_1_0_0_1_n_n none
    (mulf y (S.m23.view.readCov (tiles (gate S)) (Rect.unit (s := S512x512) ![128 * (t % 4), 0] S128x512.size (in_r t)).toLoadRect))
    (shapeCast S512x256 S.wout shapeCasts_S512x256_S512x256) (constant S128x256 .f32 0x00000000#32)
  shapeCast S1x128x256 (ln o S.ln2w S.ln2b) shapeCasts_S128x256_S1x128x256

/-- What is written into the result's block, the last first. -/
def outL (S : Loads F) : List (View.Piece (Elt F) S1x512x256 .f32) :=
  have p (t : ℕ) : View.Piece (Elt F) S1x512x256 .f32 := ⟨Rect.unit ![0, 128 * (t % 4), 0] S1x128x256.size (in_x t), out S t⟩
  [p 3, p 2, p 1, p 0]

end Cert.KernelIdeal.Block

end
-- ==== Proof.BlockRun.lean ====
module

public import proofs.«01_k».proof.Proof.Block
public import proofs.«01_k».proof.Proof.Gen.KernelIdeal.Frame

@[expose] public section

set_option maxRecDepth 16384

noncomputable section

/-! What a grid point leaves in the result's block, in the state and in the convolution's rows, as the pieces the body writes: those of
the definitions in `Block`, at what the point loads. -/

namespace Cert.KernelIdeal.Block

open Idealize.ShloMosaic Cert.KernelIdeal Cert.KernelIdeal.Gen Idealize.ShloMosaic.Tactic

variable {F : FTy → Type} [FloatOps F] [Named F]

variable (c : Dev nD) (i : grid0.Coords)
    (arg2 : Memref sig .tc .vmem S1x512x256 .f32) (harg2 : arg2.IsWhole)
    (arg3 : Memref sig .tc .vmem S256x1024 .f32) (harg3 : arg3.IsWhole)
    (arg4 : Memref sig .tc .vmem S512x16 .f32) (harg4 : arg4.IsWhole)
    (arg5 : Memref sig .tc .vmem S512x64 .f32) (harg5 : arg5.IsWhole)
    (arg6 : Memref sig .tc .vmem S512x64 .f32) (harg6 : arg6.IsWhole)
    (arg7 : Memref sig .tc .vmem S16x512 .f32) (harg7 : arg7.IsWhole)
    (arg8 : Memref sig .tc .vmem S1x512 .f32) (harg8 : arg8.IsWhole)
    (arg9 : Memref sig .tc .vmem S64x512 .f32) (harg9 : arg9.IsWhole)
    (arg10 : Memref sig .tc .vmem S4x512 .f32) (harg10 : arg10.IsWhole)
    (arg11 : Memref sig .tc .vmem S1x512 .f32) (harg11 : arg11.IsWhole)
    (arg12 : Memref sig .tc .vmem S1x512 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256 .f32) (harg16 : arg16.IsWhole)
    (arg17 : Memref sig .tc .vmem S512x256 .f32) (harg17 : arg17.IsWhole)
    (arg18 : Memref sig .tc .vmem S1x512x256 .f32) (harg18 : arg18.IsWhole)
    (arg19 : Memref sig .tc .vmem S64x512 .f32) (harg19 : arg19.IsWhole)
    (arg20 : Memref sig .tc .vmem S520x512 .f32) (harg20 : arg20.IsWhole)
    (arg21 : Memref sig .tc .vmem S512x512 .f32) (harg21 : arg21.IsWhole)
    (arg22 : Memref sig .tc .vmem S512x512 .f32) (harg22 : arg22.IsWhole)
    (arg23 : Memref sig .tc .vmem S512x512 .f32) (harg23 : arg23.IsWhole)
    (arg24 : Memref sig .tc .vmem S512x512 .f32) (harg24 : arg24.IsWhole)
    (arg25 : Memref sig .tc .vmem S512x64 .f32) (harg25 : arg25.IsWhole)
    (arg26 : Memref sig .tc .vmem S512x64 .f32) (harg26 : arg26.IsWhole)
    (x0 : Vec F S1x512x256 .f32) (x1 : Vec F S256x1024 .f32) (x2 : Vec F S512x16 .f32) (x3 : Vec F S512x64 .f32) (x4 : Vec F S512x64 .f32) (x5 : Vec F S16x512 .f32) (x6 : Vec F S1x512 .f32) (x7 : Vec F S64x512 .f32) (x8 : Vec F S4x512 .f32) (x9 : Vec F S1x512 .f32) (x10 : Vec F S1x512 .f32) (x11 : Vec F S1x256 .f32) (x12 : Vec F S1x256 .f32) (x13 : Vec F S1x256 .f32) (x14 : Vec F S1x256 .f32) (x15 : Vec F S512x256 .f32)

/-- The loads common to every grid point, at state `h0` and earlier rows `head`. -/
def loads (h0 : Vec F S64x512 .f32) (head : Vec F S8x512 .f32) : Loads F where
  h0 := h0
  head := head
  xt t := View.readAt (Elt F) arg2.view (Rect.unit (s := S1x512x256) ![0, 128 * (t % 4), 0] S1x128x256.size (in_x t)).toLoadRect (harg2.unread x0)
  win := View.readAt (Elt F) arg3.view (Rect.unit (s := S256x1024) ![0, 0] S256x1024.size inb_S256x1024_S256x1024_0_0).toLoadRect (harg3.unread x1)
  wxdt := View.readAt (Elt F) arg4.view (Rect.unit (s := S512x16) ![0, 0] S512x16.size inb_S512x16_S512x16_0_0).toLoadRect (harg4.unread x2)
  wxb := View.readAt (Elt F) arg5.view (Rect.unit (s := S512x64) ![0, 0] S512x64.size inb_S512x64_S512x64_0_0).toLoadRect (harg5.unread x3)
  wxc := View.readAt (Elt F) arg6.view (Rect.unit (s := S512x64) ![0, 0] S512x64.size inb_S512x64_S512x64_0_0).toLoadRect (harg6.unread x4)
  wdt := View.readAt (Elt F) arg7.view (Rect.unit (s := S16x512) ![0, 0] S16x512.size inb_S16x512_S16x512_0_0).toLoadRect (harg7.unread x5)
  bdt := View.readAt (Elt F) arg8.view (Rect.unit (s := S1x512) ![0, 0] S1x512.size inb_S1x512_S1x512_0_0).toLoadRect (harg8.unread x6)
  at0 := View.readAt (Elt F) arg9.view (Rect.unit (s := S64x512) ![0, 0] S64x512.size inb_S64x512_S64x512_0_0).toLoadRect (harg9.unread x7)
  cb := View.readAt (Elt F) arg11.view (Rect.unit (s := S1x512) ![0, 0] S1x512.size inb_S1x512_S1x512_0_0).toLoadRect (harg11.unread x9)
  dpar := View.readAt (Elt F) arg12.view (Rect.unit (s := S1x512) ![0, 0] S1x512.size inb_S1x512_S1x512_0_0).toLoadRect (harg12.unread x10)
  ln1w := View.readAt (Elt F) arg13.view (Rect.unit (s := S1x256) ![0, 0] S1x256.size inb_S1x256_S1x256_0_0).toLoadRect (harg13.unread x11)
  ln1b := View.readAt (Elt F) arg14.view (Rect.unit (s := S1x256) ![0, 0] S1x256.size inb_S1x256_S1x256_0_0).toLoadRect (harg14.unread x12)
  ln2w := View.readAt (Elt F) arg15.view (Rect.unit (s := S1x256) ![0, 0] S1x256.size inb_S1x256_S1x256_0_0).toLoadRect (harg15.unread x13)
  ln2b := View.readAt (Elt F) arg16.view (Rect.unit (s := S1x256) ![0, 0] S1x256.size inb_S1x256_S1x256_0_0).toLoadRect (harg16.unread x14)
  wout := View.readAt (Elt F) arg17.view (Rect.unit (s := S512x256) ![0, 0] S512x256.size inb_S512x256_S512x256_0_0).toLoadRect (harg17.unread x15)
  cw0 := View.readAt (Elt F) arg10.view (Rect.unit (s := S4x512) ![0, 0] S1x512.size inb_S4x512_S1x512_0_0).toLoadRect (harg10.unread x8)
  cw1 := View.readAt (Elt F) arg10.view (Rect.unit (s := S4x512) ![1, 0] S1x512.size inb_S4x512_S1x512_1_0).toLoadRect (harg10.unread x8)
  cw2 := View.readAt (Elt F) arg10.view (Rect.unit (s := S4x512) ![2, 0] S1x512.size inb_S4x512_S1x512_2_0).toLoadRect (harg10.unread x8)
  cw3 := View.readAt (Elt F) arg10.view (Rect.unit (s := S4x512) ![3, 0] S1x512.size inb_S4x512_S1x512_3_0).toLoadRect (harg10.unread x8)
  m20 := arg20
  m21 := arg21
  m22 := arg22
  m23 := arg23
  m24 := arg24
  m25 := arg25
  m26 := arg26

/-- At the first chunk of a sequence the state and the earlier rows are zero. -/
def loadsA : Loads F :=
  loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 arg21 arg22 arg23 arg24 arg25 arg26 x0 x1 x2 x3 x4 x5 x6 x7 x8 x9 x10 x11 x12 x13 x14 x15
    (arg19.view.readCov [⟨Rect.unit (s := S64x512) ![0, 0] S64x512.size inb_S64x512_S64x512_0_0, k0_pay2⟩]
      (Rect.unit (s := S64x512) ![0, 0] S64x512.size inb_S64x512_S64x512_0_0).toLoadRect)
    k0_pay3

/-- At a later chunk they are what the chunk before left. -/
def loadsB (xs0 : Vec F S64x512 .f32) (xs1 : Vec F S520x512 .f32) : Loads F :=
  loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 arg21 arg22 arg23 arg24 arg25 arg26 x0 x1 x2 x3 x4 x5 x6 x7 x8 x9 x10 x11 x12 x13 x14 x15
    (View.readAt (Elt F) arg19.view (Rect.unit (s := S64x512) ![0, 0] S64x512.size inb_S64x512_S64x512_0_0).toLoadRect (harg19.unread xs0))
    (k0_pay4 (View.readAt (Elt F) arg20.view (Rect.unit (s := S520x512) ![512, 0] S8x512.size inb_S520x512_S8x512_512_0).toLoadRect (harg20.unread xs1)))

/-- The pieces written into the convolution's rows, at the first chunk of a sequence. -/
theorem conv_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.1
      = convL (loadsA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 arg20 arg21 arg22 arg23 arg24 arg25 arg26 x0 x1 x2 x3 x4 x5 x6 x7 x8 x9 x10 x11 x12 x13 x14 x15) := by
  sl_kernel_rfl

/-- The pieces written into the state, at the first chunk of a sequence. -/
theorem state_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.1
      = (⟨Rect.unit (s := S64x512) ![0, 0] S64x512.size inb_S64x512_S64x512_0_0, shapeCast S64x512 (hs (loadsA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 arg20 arg21 arg22 arg23 arg24 arg25 arg26 x0 x1 x2 x3 x4 x5 x6 x7 x8 x9 x10 x11 x12 x13 x14 x15) 512) shapeCasts_S64x512_S64x512⟩ ::
        [⟨Rect.unit (s := S64x512) ![0, 0] S64x512.size inb_S64x512_S64x512_0_0, k0_pay2⟩]) := by
  sl_kernel_rfl

/-- The pieces written into the result's block, at the first chunk of a sequence. -/
theorem out_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).1
      = outL (loadsA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 arg20 arg21 arg22 arg23 arg24 arg25 arg26 x0 x1 x2 x3 x4 x5 x6 x7 x8 x9 x10 x11 x12 x13 x14 x15) := by
  sl_kernel_rfl

/-- The pieces written into the convolution's rows, at a later chunk. -/
theorem conv_B (hc0 : ¬cond0_0 i) (hc1 : cond0_1 i) (xs0 : Vec F S64x512 .f32) (xs1 : Vec F S520x512 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs1).2.2.1
      = convL (loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 arg22 arg23 arg24 arg25 arg26 x0 x1 x2 x3 x4 x5 x6 x7 x8 x9 x10 x11 x12 x13 x14 x15 xs0 xs1) := by
  sl_kernel_rfl

/-- The pieces written into the state, at a later chunk. -/
theorem state_B (hc0 : ¬cond0_0 i) (hc1 : cond0_1 i) (xs0 : Vec F S64x512 .f32) (xs1 : Vec F S520x512 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs1).2.1
      = (⟨Rect.unit (s := S64x512) ![0, 0] S64x512.size inb_S64x512_S64x512_0_0, shapeCast S64x512 (hs (loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 arg22 arg23 arg24 arg25 arg26 x0 x1 x2 x3 x4 x5 x6 x7 x8 x9 x10 x11 x12 x13 x14 x15 xs0 xs1) 512) shapeCasts_S64x512_S64x512⟩ ::
        []) := by
  sl_kernel_rfl

/-- The pieces written into the result's block, at a later chunk. -/
theorem out_B (hc0 : ¬cond0_0 i) (hc1 : cond0_1 i) (xs0 : Vec F S64x512 .f32) (xs1 : Vec F S520x512 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs1).1
      = outL (loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 arg22 arg23 arg24 arg25 arg26 x0 x1 x2 x3 x4 x5 x6 x7 x8 x9 x10 x11 x12 x13 x14 x15 xs0 xs1) := by
  sl_kernel_rfl

end Cert.KernelIdeal.Block

end
-- ==== Proof.Spec.lean ====
module

public import Idealize.ShloMosaic.Lib.Pointwise

@[expose] public section

noncomputable section

/-! The layer as mathematics over the extended reals, one sequence of rows at a time. -/

namespace Cert.Mamba

open Idealize.ShloMosaic

/-- The layer's parameters; `A` holds the decay rates, which are negative. -/
structure Weights where
  ln1w : Fin 256 → EReal
  ln1b : Fin 256 → EReal
  ln2w : Fin 256 → EReal
  ln2b : Fin 256 → EReal
  win : Fin 1024 → Fin 256 → EReal
  cw : Fin 512 → Fin 4 → EReal
  cb : Fin 512 → EReal
  wx : Fin 144 → Fin 512 → EReal
  wdt : Fin 512 → Fin 16 → EReal
  bdt : Fin 512 → EReal
  A : Fin 512 → Fin 64 → EReal
  D : Fin 512 → EReal
  wout : Fin 256 → Fin 512 → EReal

/-- The mean of a row. -/
def mean (v : Fin 256 → EReal) : EReal := Ideal.div (∑ x, v x) (Ideal.ofBits FTy.f32 1132462080#32)

/-- Layer normalisation of a row. -/
def lnRow (v w b : Fin 256 → EReal) (j : Fin 256) : EReal :=
  (v j - mean v) * Ideal.rsqrt (mean (fun x => (v x - mean v) * (v x - mean v)) + Ideal.ofBits FTy.f32 897988541#32) * w j + b j

/-- `v / (1 + exp (-v))`. -/
def silu (v : EReal) : EReal := v * Ideal.div 1 (1 + Ideal.exp (-v))

/-- `log (1 + exp v)`, as the maximum with zero and a correction. -/
def softplus (v : EReal) : EReal := max v 0 + Ideal.log1p (Ideal.exp (-(max v (-v))))

variable (P : Weights) (X : ℕ → Fin 256 → EReal)

/-- Row `l` of the normalised input times the input projection. -/
def xz (l : ℕ) (e : Fin 1024) : EReal := ∑ d, lnRow (X l) P.ln1w P.ln1b d * P.win e d

/-- The left half of those rows, with three rows of zeros in front. -/
def pad (l : ℕ) (d : Fin 512) : EReal := if l < 3 then 0 else xz P X (l - 3) ⟨d.val, by omega⟩

/-- The convolved row. -/
def u (l : ℕ) (d : Fin 512) : EReal :=
  silu (P.cw d 0 * pad P X l d + P.cw d 1 * pad P X (l + 1) d + P.cw d 2 * pad P X (l + 2) d + P.cw d 3 * pad P X (l + 3) d + P.cb d)

/-- The row's products with the three groups of columns of the second projection. -/
def proj (l : ℕ) (e : Fin 144) : EReal := ∑ d, u P X l d * P.wx e d

/-- The step sizes. -/
def dt (l : ℕ) (d : Fin 512) : EReal := softplus (∑ r : Fin 16, proj P X l ⟨r.val, by omega⟩ * P.wdt d r + P.bdt d)

/-- The state before row `l`. -/
def h (l : ℕ) (d : Fin 512) (n : Fin 64) : EReal :=
  match l with
  | 0 => 0
  | l + 1 => Ideal.exp (dt P X l d * P.A d n) * h l d n + dt P X l d * u P X l d * proj P X l ⟨16 + n.val, by omega⟩

/-- The gated output of the recurrence at row `l`. -/
def gated (l : ℕ) (d : Fin 512) : EReal :=
  (∑ n : Fin 64, proj P X l ⟨80 + n.val, by omega⟩ * h P X (l + 1) d n + u P X l d * P.D d) * silu (xz P X l ⟨512 + d.val, by omega⟩)

/-- Row `l` of the layer's result. -/
def out (l : ℕ) (j : Fin 256) : EReal := lnRow (fun j => ∑ d, gated P X l d * P.wout j d) P.ln2w P.ln2b j

/-- One step of the recurrence. -/
theorem h_succ (l : ℕ) (d : Fin 512) (n : Fin 64) :
    h P X (l + 1) d n = Ideal.exp (dt P X l d * P.A d n) * h P X l d n + dt P X l d * u P X l d * proj P X l ⟨16 + n.val, by omega⟩ := rfl

/-- The parameters read off the arrays of the call. -/
def params (a1 a2 a3 a4 : (⟨1, ![256]⟩ : Shape).Idx → EReal) (a5 : (⟨2, ![1024, 256]⟩ : Shape).Idx → EReal)
    (a6 : (⟨2, ![512, 4]⟩ : Shape).Idx → EReal) (a7 : (⟨1, ![512]⟩ : Shape).Idx → EReal) (a8 : (⟨2, ![144, 512]⟩ : Shape).Idx → EReal)
    (a9 : (⟨2, ![512, 16]⟩ : Shape).Idx → EReal) (a10 : (⟨1, ![512]⟩ : Shape).Idx → EReal) (a11 : (⟨2, ![512, 64]⟩ : Shape).Idx → EReal)
    (a12 : (⟨1, ![512]⟩ : Shape).Idx → EReal) (a13 : (⟨2, ![256, 512]⟩ : Shape).Idx → EReal) : Weights where
  ln1w j := a1 (ix1 j)
  ln1b j := a2 (ix1 j)
  ln2w j := a3 (ix1 j)
  ln2b j := a4 (ix1 j)
  win e d := a5 (ix2 e d)
  cw d j := a6 (ix2 d j)
  cb d := a7 (ix1 d)
  wx e d := a8 (ix2 e d)
  wdt d r := a9 (ix2 d r)
  bdt d := a10 (ix1 d)
  A d n := -Ideal.exp (a11 (ix2 d n))
  D d := a12 (ix1 d)
  wout j d := a13 (ix2 j d)

/-- Sequence `b` of the eight: the first four go along the rows of an image, the last four along its columns. -/
def seqs (a0 : (⟨4, ![4, 64, 64, 256]⟩ : Shape).Idx → EReal) (b l : ℕ) (j : Fin 256) : EReal :=
  if b < 4 then a0 (ix4 (Fin.ofNat 4 b) (Fin.ofNat 64 (l / 64)) (Fin.ofNat 64 l) j)
  else a0 (ix4 (Fin.ofNat 4 b) (Fin.ofNat 64 l) (Fin.ofNat 64 (l / 64)) j)

/-- Row `l` of sequence `b`, picked by the number of the sequence and the row's place in the image. -/
theorem seqs_host (a0 : (⟨4, ![4, 64, 64, 256]⟩ : Shape).Idx → EReal) (b : Fin 8) (l : Fin 4096) (j : Fin 256) :
    (if h : b.val < 4 then a0 (ix4 ⟨b.val, h⟩ ⟨l.val / 64, by omega⟩ ⟨l.val % 64, by omega⟩ j)
      else a0 (ix4 ⟨b.val - 4, by omega⟩ ⟨l.val % 64, by omega⟩ ⟨l.val / 64, by omega⟩ j)) = seqs a0 b.val l.val j := by
  have e : (⟨l.val % 64, by omega⟩ : Fin 64) = Fin.ofNat 64 l.val := Fin.ext rfl
  have e2 : (⟨l.val / 64, by omega⟩ : Fin 64) = Fin.ofNat 64 (l.val / 64) :=
    Fin.ext (Nat.mod_eq_of_lt (show l.val / 64 < 64 by omega)).symm
  unfold seqs
  by_cases h : b.val < 4
  · have e3 : (⟨b.val, h⟩ : Fin 4) = Fin.ofNat 4 b.val := Fin.ext (Nat.mod_eq_of_lt h).symm
    rw [dif_pos h, if_pos h, e, e2, e3]
  · have e3 : (⟨b.val - 4, by omega⟩ : Fin 4) = Fin.ofNat 4 b.val := Fin.ext (show b.val - 4 = b.val % 4 by omega)
    rw [dif_neg h, if_neg h, e, e2, e3]

/-- The layer's result: the image, and the two passes' rows put back at their places. -/
def result (P : Weights) (a0 : (⟨4, ![4, 64, 64, 256]⟩ : Shape).Idx → EReal) (b : Fin 4) (i k : Fin 64) (j : Fin 256) : EReal :=
  a0 (ix4 b i k j) + out P (seqs a0 b.val) (64 * i.val + k.val) j + out P (seqs a0 (4 + b.val)) (64 * k.val + i.val) j

end Cert.Mamba

end
-- ==== Proof.Powers.lean ====
module

public import Idealize.ShloMosaic.Lib.Pointwise

@[expose] public section

noncomputable section

/-! Exponentials with negative rates over the extended reals. -/

namespace Cert.Mamba

open Idealize.ShloMosaic

/-- With a negative rate, the exponential at a product is a power of two with the rate divided by `log 2`. -/
theorem exp2_rate (a : ℝ) (ha : a < 0) (x : EReal) :
    Ideal.exp2 ((a : EReal) * (((Real.log 2)⁻¹ : ℝ) : EReal) * x) = Ideal.exp (x * (a : EReal)) := by
  have h2 : 0 < Real.log 2 := Real.log_pos (by norm_num)
  have hn : a * (Real.log 2)⁻¹ < 0 := mul_neg_of_neg_of_pos ha (inv_pos.mpr h2)
  rw [← EReal.coe_mul]
  induction x with
  | bot => rw [EReal.coe_mul_bot_of_neg hn, EReal.bot_mul_coe_of_neg ha]; rfl
  | top => rw [EReal.coe_mul_top_of_neg hn, EReal.top_mul_coe_of_neg ha]; rfl
  | coe x =>
    rw [← EReal.coe_mul, ← EReal.coe_mul, Ideal.exp2_coe, Ideal.exp_coe]
    congr 1
    show (2 : ℝ) ^ (a * (Real.log 2)⁻¹ * x) = _
    rw [Real.rpow_def_of_pos (by norm_num)]
    congr 1
    field_simp

/-- Exponentials with two negative rates multiply to the one with their sum. -/
theorem exp_rates (a b : ℝ) (ha : a < 0) (hb : b < 0) (x : EReal) :
    Ideal.exp (x * (a : EReal)) * Ideal.exp (x * (b : EReal)) = Ideal.exp (x * ((a + b : ℝ) : EReal)) := by
  have hc : a + b < 0 := by linarith
  induction x with
  | bot => rw [EReal.bot_mul_coe_of_neg ha, EReal.bot_mul_coe_of_neg hb, EReal.bot_mul_coe_of_neg hc]; rfl
  | top =>
    rw [EReal.top_mul_coe_of_neg ha, EReal.top_mul_coe_of_neg hb, EReal.top_mul_coe_of_neg hc, Ideal.exp_bot]
    exact mul_zero _
  | coe x =>
    rw [← EReal.coe_mul, ← EReal.coe_mul, ← EReal.coe_mul, Ideal.exp_coe, Ideal.exp_coe, Ideal.exp_coe, ← EReal.coe_mul, ← Real.exp_add, mul_add]

end Cert.Mamba

end
-- ==== Proof.BlockValue.lean ====
module

public import proofs.«01_k».proof.Proof.Block
public import proofs.«01_k».proof.Proof.Spec
public import proofs.«01_k».proof.Proof.Powers

@[expose] public section

set_option maxRecDepth 16384

noncomputable section

/-! The values of the definitions of `Block`: what a grid point computes is 512 rows of the layer. -/

namespace Cert.KernelIdeal.Block

open Idealize.ShloMosaic Cert.KernelIdeal Cert.KernelIdeal.Gen

/-- A grid point loads 512 rows of the sequence `X`, from row `r` on, the parameters `P`, the state before row `r` and the three
convolution rows before it. The decay rates are `-1, …, -64`. -/
structure Good (S : Loads Ideal) (P : Mamba.Weights) (X : ℕ → Fin 256 → EReal) (r : ℕ) : Prop where
  x : ∀ t, t < 4 → ∀ (i : Fin 128) (j : Fin 256), S.xt t (ix3 0 i j) = X (r + 128 * t + i) j
  win : ∀ d e, S.win (ix2 d e) = P.win e d
  wxdt : ∀ d (e : Fin 16), S.wxdt (ix2 d e) = P.wx ⟨e.val, by omega⟩ d
  wxb : ∀ d (e : Fin 64), S.wxb (ix2 d e) = P.wx ⟨16 + e.val, by omega⟩ d
  wxc : ∀ d (e : Fin 64), S.wxc (ix2 d e) = P.wx ⟨80 + e.val, by omega⟩ d
  wdt : ∀ e d, S.wdt (ix2 e d) = P.wdt d e
  bdt : ∀ d, S.bdt (ix2 0 d) = P.bdt d
  at0 : ∀ n d, S.at0 (ix2 n d) = P.A d n
  cw0 : ∀ d, S.cw0 (ix2 0 d) = P.cw d 0
  cw1 : ∀ d, S.cw1 (ix2 0 d) = P.cw d 1
  cw2 : ∀ d, S.cw2 (ix2 0 d) = P.cw d 2
  cw3 : ∀ d, S.cw3 (ix2 0 d) = P.cw d 3
  cb : ∀ d, S.cb (ix2 0 d) = P.cb d
  dpar : ∀ d, S.dpar (ix2 0 d) = P.D d
  ln1w : ∀ d, S.ln1w (ix2 0 d) = P.ln1w d
  ln1b : ∀ d, S.ln1b (ix2 0 d) = P.ln1b d
  ln2w : ∀ d, S.ln2w (ix2 0 d) = P.ln2w d
  ln2b : ∀ d, S.ln2b (ix2 0 d) = P.ln2b d
  wout : ∀ d j, S.wout (ix2 d j) = P.wout j d
  h0 : ∀ n d, S.h0 (ix2 n d) = Mamba.h P X r d n
  head : ∀ (k : Fin 8) d, 5 ≤ k.val → S.head (ix2 k d) = Mamba.pad P X (r + (k.val - 5)) d
  rate : ∀ d (n : Fin 64), P.A d n = ((-(n.val + 1 : ℝ) : ℝ) : EReal)

/-- Four pieces listed from the last: membership by number. -/
theorem mem_four {α : Type*} (p : ℕ → α) {t : ℕ} (ht : t < 4) : p t ∈ [p 3, p 2, p 1, p 0] := by
  interval_cases t <;> simp

/-- A member of the list of four tiles is one of them. -/
theorem of_mem_four {α : Type*} (p : ℕ → α) {q : α} (h : q ∈ [p 3, p 2, p 1, p 0]) : ∃ t, t < 4 ∧ q = p t := by
  simp only [List.mem_cons, List.not_mem_nil, or_false] at h
  rcases h with h | h | h | h
  exacts [⟨3, by decide, h⟩, ⟨2, by decide, h⟩, ⟨1, by decide, h⟩, ⟨0, by decide, h⟩]

/-- The four tiles of a buffer read back. -/
theorem canon_tiles {f : ℕ → FVec Ideal S128x512 .f32} {G : ℕ → Fin 512 → EReal}
    (hf : ∀ t, t < 4 → ∀ (i : Fin 128) d, f t (ix2 i d) = G (128 * t + i) d) (r : Fin 512) (d : Fin 512) :
    View.canon (Val := Elt Ideal) (tiles f) (ix2 r d) = G r d := by
  refine View.canon_apply_of_pieces (S := S512x512) (fun y => G (y 0).val (y 1)) (tiles f) ?_ (ix2 r d) ?_
  · intro p hm
    obtain ⟨t, ht, rfl⟩ := of_mem_four (fun t => (⟨Rect.unit ![128 * (t % 4), 0] S128x512.size (in_r t), f t⟩ : View.Piece (Elt Ideal) S512x512 .f32)) hm
    intro x
    idx_vars x
    refine (hf t ht x0 x1).trans ?_
    refine congrArg₂ G ?_ (Fin.ext ?_)
    · show _ = 128 * (t % 4) + 1 * x0.val
      omega
    · show _ = 0 + 1 * x1.val
      omega
  · have hr := r.isLt
    have ht : r.val / 128 < 4 := by omega
    refine ⟨_, mem_four (fun t => (⟨Rect.unit ![128 * (t % 4), 0] S128x512.size (in_r t), f t⟩ : View.Piece (Elt Ideal) S512x512 .f32)) ht, ?_⟩
    refine (Rect.mem_set_unit (inb := in_r (r.val / 128))).mpr (Fin.forall_fin_two.mpr ⟨⟨?_, ?_⟩, ⟨Nat.zero_le _, ?_⟩⟩)
    · show 128 * (r.val / 128 % 4) ≤ r.val
      omega
    · show r.val < 128 * (r.val / 128 % 4) + 128
      omega
    · show d.val < 0 + 512
      omega

/-- The same of a buffer of 64 columns. -/
theorem canon_tilesB {f : ℕ → FVec Ideal S128x64 .f32} {G : ℕ → Fin 64 → EReal}
    (hf : ∀ t, t < 4 → ∀ (i : Fin 128) d, f t (ix2 i d) = G (128 * t + i) d) (r : Fin 512) (d : Fin 64) :
    View.canon (Val := Elt Ideal) (tilesB f) (ix2 r d) = G r d := by
  refine View.canon_apply_of_pieces (S := S512x64) (fun y => G (y 0).val (y 1)) (tilesB f) ?_ (ix2 r d) ?_
  · intro p hm
    obtain ⟨t, ht, rfl⟩ := of_mem_four (fun t => (⟨Rect.unit ![128 * (t % 4), 0] S128x64.size (in_b t), f t⟩ : View.Piece (Elt Ideal) S512x64 .f32)) hm
    intro x
    idx_vars x
    refine (hf t ht x0 x1).trans ?_
    refine congrArg₂ G ?_ (Fin.ext ?_)
    · show _ = 128 * (t % 4) + 1 * x0.val
      omega
    · show _ = 0 + 1 * x1.val
      omega
  · have hr := r.isLt
    have ht : r.val / 128 < 4 := by omega
    refine ⟨_, mem_four (fun t => (⟨Rect.unit ![128 * (t % 4), 0] S128x64.size (in_b t), f t⟩ : View.Piece (Elt Ideal) S512x64 .f32)) ht, ?_⟩
    refine (Rect.mem_set_unit (inb := in_b (r.val / 128))).mpr (Fin.forall_fin_two.mpr ⟨⟨?_, ?_⟩, ⟨Nat.zero_le _, ?_⟩⟩)
    · show 128 * (r.val / 128 % 4) ≤ r.val
      omega
    · show r.val < 128 * (r.val / 128 % 4) + 128
      omega
    · show d.val < 0 + 64
      omega

/-- The same of the result's block. -/
theorem canon_out (S : Loads Ideal) {G : ℕ → Fin 256 → EReal}
    (hf : ∀ t, t < 4 → ∀ (i : Fin 128) d, out S t (ix3 0 i d) = G (128 * t + i) d) (r : Fin 512) (d : Fin 256) :
    View.canon (Val := Elt Ideal) (outL S) (ix3 0 r d) = G r d := by
  refine View.canon_apply_of_pieces (S := S1x512x256) (fun y => G (y 1).val (y 2)) (outL S) ?_ (ix3 0 r d) ?_
  · intro p hm
    obtain ⟨t, ht, rfl⟩ := of_mem_four (fun t => (⟨Rect.unit ![0, 128 * (t % 4), 0] S1x128x256.size (in_x t), out S t⟩ : View.Piece (Elt Ideal) S1x512x256 .f32)) hm
    intro x
    idx_vars x
    obtain rfl : x0 = 0 := Subsingleton.elim _ _
    refine (hf t ht x1 x2).trans ?_
    refine congrArg₂ G ?_ (Fin.ext ?_)
    · show _ = 128 * (t % 4) + 1 * x1.val
      omega
    · show _ = 0 + 1 * x2.val
      omega
  · have hr := r.isLt
    have ht : r.val / 128 < 4 := by omega
    refine ⟨_, mem_four (fun t => (⟨Rect.unit ![0, 128 * (t % 4), 0] S1x128x256.size (in_x t), out S t⟩ : View.Piece (Elt Ideal) S1x512x256 .f32)) ht, ?_⟩
    refine (Rect.mem_set_unit (inb := in_x (r.val / 128))).mpr
      (Fin.forall_fin_succ.mpr ⟨⟨Nat.zero_le _, Nat.one_pos⟩, Fin.forall_fin_two.mpr ⟨⟨?_, ?_⟩, ⟨Nat.zero_le _, ?_⟩⟩⟩)
    · show 128 * (r.val / 128 % 4) ≤ r.val
      omega
    · show r.val < 128 * (r.val / 128 % 4) + 128
      omega
    · show d.val < 0 + 256
      omega

/-- The convolution's rows read back: eight rows from before, then the block's own. -/
theorem canon_conv (S : Loads Ideal) {G : ℕ → Fin 512 → EReal}
    (hf : ∀ t, t < 4 → ∀ (i : Fin 128) d, xin S t (ix2 i d) = G (128 * t + 8 + i) d) (hh : ∀ (k : Fin 8) d, S.head (ix2 k d) = G k d)
    (r : Fin 520) (d : Fin 512) : View.canon (Val := Elt Ideal) (convL S) (ix2 r d) = G r d := by
  refine View.canon_apply_of_pieces (S := S520x512) (fun y => G (y 0).val (y 1)) (convL S) ?_ (ix2 r d) ?_
  · intro p hm
    have hm' : p ∈ [pc S 3, pc S 2, pc S 1, pc S 0] ++ [⟨Rect.unit ![0, 0] S8x512.size inb_S520x512_S8x512_0_0, S.head⟩] := hm
    rcases List.mem_append.mp hm' with hm | hm
    · obtain ⟨t, ht, rfl⟩ := of_mem_four (pc S) hm
      intro x
      change S128x512.Idx at x
      idx_vars x
      refine (hf t ht x0 x1).trans ?_
      refine congrArg₂ G ?_ (Fin.ext ?_)
      · show _ = 128 * (t % 4) + 8 + 1 * x0.val
        omega
      · show _ = 0 + 1 * x1.val
        omega
    · obtain rfl := List.mem_singleton.mp hm
      intro x
      idx_vars x
      refine (hh x0 x1).trans ?_
      refine congrArg₂ G ?_ (Fin.ext ?_)
      · show _ = 0 + 1 * x0.val
        omega
      · show _ = 0 + 1 * x1.val
        omega
  · have hr := r.isLt
    have hL : convL S = [pc S 3, pc S 2, pc S 1, pc S 0] ++ [⟨Rect.unit ![0, 0] S8x512.size inb_S520x512_S8x512_0_0, S.head⟩] := rfl
    rw [hL]
    by_cases h8 : r.val < 8
    · refine ⟨_, List.mem_append_right _ (List.mem_singleton_self _), ?_⟩
      refine (Rect.mem_set_unit (inb := inb_S520x512_S8x512_0_0)).mpr (Fin.forall_fin_two.mpr ⟨⟨Nat.zero_le _, ?_⟩, ⟨Nat.zero_le _, ?_⟩⟩)
      · show r.val < 0 + 8
        omega
      · show d.val < 0 + 512
        omega
    · have ht : (r.val - 8) / 128 < 4 := by omega
      refine ⟨_, List.mem_append_left _ (mem_four (pc S) ht), ?_⟩
      refine (Rect.mem_set_unit (inb := in_c ((r.val - 8) / 128) 8 (by decide))).mpr (Fin.forall_fin_two.mpr ⟨⟨?_, ?_⟩, ⟨Nat.zero_le _, ?_⟩⟩)
      · show 128 * ((r.val - 8) / 128 % 4) + 8 ≤ r.val
        omega
      · show r.val < 128 * ((r.val - 8) / 128 % 4) + 8 + 128
        omega
      · show d.val < 0 + 512
        omega

/-- A written piece of outputs is one of the groups of eight rows. -/
theorem of_mem_yL (S : Loads Ideal) : ∀ (n : ℕ) {p : View.Piece (Elt Ideal) S512x512 .f32}, p ∈ yL S n → ∃ g, g < n ∧ p = py S g
  | 0, _, h => absurd h List.not_mem_nil
  | n + 1, p, h => by
    rcases List.mem_cons.mp (show p ∈ py S n :: yL S n from h) with h | h
    · exact ⟨n, Nat.lt_succ_self n, h⟩
    · obtain ⟨g, hg, e⟩ := of_mem_yL S n h
      exact ⟨g, Nat.lt_succ_of_lt hg, e⟩

/-- Each group of eight rows is written. -/
theorem mem_yL (S : Loads Ideal) : ∀ (n : ℕ) {g : ℕ}, g < n → py S g ∈ yL S n
  | 0, _, h => absurd h (Nat.not_lt_zero _)
  | n + 1, g, h => by
    show py S g ∈ py S n :: yL S n
    rcases Nat.lt_succ_iff_lt_or_eq.mp h with h | rfl
    · exact List.mem_cons_of_mem _ (mem_yL S n h)
    · exact List.mem_cons_self

/-- The recurrence's output rows, written eight at a time, read back. -/
theorem canon_y (S : Loads Ideal) {G : ℕ → Fin 512 → EReal} (hf : ∀ k, k < 512 → ∀ d, row S k (ix2 0 d) = G k d) (r : Fin 512) (d : Fin 512) :
    View.canon (Val := Elt Ideal) (yL S 64) (ix2 r d) = G r d := by
  refine View.canon_apply_of_pieces (S := S512x512) (fun y => G (y 0).val (y 1)) (yL S 64) ?_ (ix2 r d) ?_
  · intro p hm
    obtain ⟨g, hg, rfl⟩ := of_mem_yL S 64 hm
    intro x
    change S8x512.Idx at x
    idx_vars x
    have h0 := x0.isLt
    have hv : (py S g).2 (ix2 x0 x1) = G (8 * g + x0.val) x1 := by
      pointwise [py]
      fin_vals x0 with hk
      all_goals
        simp only [hk, Nat.reduceSub, Nat.reduceLT, ↓reduceDIte]
        exact hf _ (by omega) _
    refine hv.trans ?_
    refine congrArg₂ G ?_ (Fin.ext ?_)
    · show _ = 8 * (g % 64) + 1 * x0.val
      omega
    · show _ = 0 + 1 * x1.val
      omega
  · have hr := r.isLt
    have hg : r.val / 8 < 64 := by omega
    refine ⟨_, mem_yL S 64 hg, ?_⟩
    refine (Rect.mem_set_unit (inb := in_y (r.val / 8))).mpr (Fin.forall_fin_two.mpr ⟨⟨?_, ?_⟩, ⟨Nat.zero_le _, ?_⟩⟩)
    · show 8 * (r.val / 8 % 64) ≤ r.val
      omega
    · show r.val < 8 * (r.val / 8 % 64) + 8
      omega
    · show d.val < 0 + 512
      omega

/-- The load of a whole 512-column buffer reads it as it is. -/
theorem off1 (x : S512x512.Idx) : (Rect.unit (s := S512x512) k0_off1 S512x512.size k0_off1_inb).toLoadRect.idx x = x := by
  funext a
  have e : ∀ a, k0_off1 a = 0 := by decide
  exact Fin.ext (show k0_off1 a + 1 * (x a).val = (x a).val by rw [e]; omega)

/-- The load of a whole 64-column buffer reads it as it is. -/
theorem off2 (x : S512x64.Idx) : (Rect.unit (s := S512x64) k0_off2 S512x64.size k0_off2_inb).toLoadRect.idx x = x := by
  funext a
  have e : ∀ a, k0_off2 a = 0 := by decide
  exact Fin.ext (show k0_off2 a + 1 * (x a).val = (x a).val by rw [e]; omega)

end Cert.KernelIdeal.Block

end
-- ==== Proof.BlockRows.lean ====
module

public import proofs.«01_k».proof.Proof.BlockValue

@[expose] public section

set_option maxRecDepth 16384

noncomputable section

/-! The rows of one grid point, each equal to the layer's rows of `Spec`. -/

namespace Cert.KernelIdeal.Block

open Idealize.ShloMosaic Cert.KernelIdeal Cert.KernelIdeal.Gen

variable {S : Loads Ideal} {P : Mamba.Weights} {X : ℕ → Fin 256 → EReal} {r : ℕ}

/-- The kernel's layer normalisation is the row's. -/
theorem ln_apply (v : FVec Ideal S128x256 .f32) (w b : Vec Ideal S1x256 .f32) (i : Fin 128) (j : Fin 256) :
    ln v w b (ix2 i j) = Mamba.lnRow (fun x => v (ix2 i x)) (fun x => w (ix2 0 x)) (fun x => b (ix2 0 x)) j := by
  pointwise [ln]
  rfl

/-- The activation, by entry. -/
theorem silu_apply (v : FVec Ideal S128x512 .f32) (i : Fin 128) (d : Fin 512) : silu v (ix2 i d) = Mamba.silu (v (ix2 i d)) := by
  pointwise [silu]
  rw [zero_sub]
  rfl

/-- The projected rows. -/
theorem xz_apply (G : Good S P X r) {t : ℕ} (ht : t < 4) (i : Fin 128) (e : Fin 1024) :
    xz S t (ix2 i e) = Mamba.xz P X (r + 128 * t + i) e := by
  pointwise [xz]
  refine Finset.sum_congr rfl fun d _ => ?_
  rw [ln_apply, G.win]
  congr 2
  · funext x
    pointwise []
    exact G.x t ht i x
  · exact funext G.ln1w
  · exact funext G.ln1b

/-- A tile of the left half of the projected rows. -/
theorem xin_apply (G : Good S P X r) {t : ℕ} (ht : t < 4) (i : Fin 128) (d : Fin 512) :
    xin S t (ix2 i d) = Mamba.pad P X (r + (128 * t + 3 + i)) d := by
  have h : xin S t (ix2 i d) = xz S t (ix2 i ⟨d.val, by omega⟩) := by pointwise [xin]
  rw [h, xz_apply G ht, Mamba.pad, if_neg (by omega)]
  congr 1
  omega

/-- A tile of the gate. -/
theorem gate_apply (G : Good S P X r) {t : ℕ} (ht : t < 4) (i : Fin 128) (d : Fin 512) :
    gate S t (ix2 i d) = Mamba.silu (Mamba.xz P X (r + 128 * t + i) ⟨512 + d.val, by omega⟩) := by
  have h : gate S t (ix2 i d) = silu (extractStridedSlice S128x512 ![0, 512] (xz S t) slices_S128x1024_o0_512_S128x512) (ix2 i d) := by
    pointwise [gate]
  rw [h, silu_apply, ← xz_apply G ht]
  pointwise []

/-- The convolution's rows read back: from row 5 on they are the padded rows. -/
theorem canon_pad (G : Good S P X r) (k : ℕ) (h5 : 5 ≤ k) (hk : k < 520) (d : Fin 512) :
    View.canon (Val := Elt Ideal) (convL S) (ix2 ⟨k, hk⟩ d) = Mamba.pad P X (r + (k - 5)) d := by
  refine (canon_conv S (G := fun k d => if h : k < 5 then S.head (ix2 ⟨k, by omega⟩ d) else Mamba.pad P X (r + (k - 5)) d) ?_ ?_ ⟨k, hk⟩ d).trans
    (dif_neg (show ¬ k < 5 by omega))
  · intro t ht i d
    rw [xin_apply G ht, dif_neg (by omega)]
    congr 2
    omega
  · intro k d
    by_cases h : k.val < 5
    · rw [dif_pos h]
    · rw [dif_neg h]
      exact G.head k d (by omega)

/-- The convolved rows. -/
theorem conv_apply (G : Good S P X r) {t : ℕ} (ht : t < 4) (i : Fin 128) (d : Fin 512) :
    conv S t (ix2 i d) = Mamba.u P X (r + 128 * t + i) d := by
  have tap (j : ℕ) (h5 : 5 ≤ j) (hj : j ≤ 8) :
      S.m20.view.readCov (convL S) (Rect.unit (s := S520x512) ![128 * (t % 4) + j, 0] S128x512.size (in_c t j hj)).toLoadRect (ix2 i d)
        = Mamba.pad P X (r + 128 * t + i + (j - 5)) d := by
    rw [View.readCov_eq_canon']
    refine (congrArg (View.canon (Val := Elt Ideal) (convL S)) ?_).trans
      ((canon_pad G (128 * t + j + i) (by omega) (by omega) d).trans (congrArg (fun n => Mamba.pad P X n d) (by omega)))
    funext a
    match a with
    | ⟨0, _⟩ => exact Fin.ext (show 128 * (t % 4) + j + 1 * i.val = 128 * t + j + i.val by omega)
    | ⟨1, _⟩ => exact Fin.ext (show 0 + 1 * d.val = d.val by omega)
  unfold conv
  rw [shapeCast_self]
  refine (silu_apply _ _ _).trans ?_
  refine congrArg Mamba.silu ?_
  pointwise []
  rw [tap 5 (by decide) (by decide), tap 6 (by decide) (by decide), tap 7 (by decide) (by decide), tap 8 (by decide) (by decide),
    G.cw0, G.cw1, G.cw2, G.cw3, G.cb]
  rfl

/-- A tile of the convolved rows read back. -/
theorem ut_apply (G : Good S P X r) {t : ℕ} (ht : t < 4) (i : Fin 128) (d : Fin 512) :
    ut S t (ix2 i d) = Mamba.u P X (r + 128 * t + i) d := by
  unfold ut
  rw [View.readCov_eq_canon']
  refine (congrArg (View.canon (Val := Elt Ideal) (tiles (conv S))) (?_ : _ = ix2 ⟨128 * t + i.val, by omega⟩ d)).trans
    ((canon_tiles (G := fun k d => Mamba.u P X (r + k) d) ?_ ⟨128 * t + i.val, by omega⟩ d).trans
      (congrArg (fun n => Mamba.u P X n d) (Nat.add_assoc r (128 * t) i.val).symm))
  · funext a
    match a with
    | ⟨0, _⟩ => exact Fin.ext (show 128 * (t % 4) + 1 * i.val = 128 * t + i.val by omega)
    | ⟨1, _⟩ => exact Fin.ext (show 0 + 1 * d.val = d.val by omega)
  · intro t ht i d
    rw [conv_apply G ht, Nat.add_assoc]

/-- A tile of the products with a group of columns of the second projection. -/
theorem bT_apply (G : Good S P X r) (w : Vec Ideal S512x64 .f32) (o : ℕ) (ho : o + 64 ≤ 144)
    (hw : ∀ d (e : Fin 64), w (ix2 d e) = P.wx ⟨o + e.val, by omega⟩ d) {t : ℕ} (ht : t < 4) (i : Fin 128) (e : Fin 64) :
    bT S w t (ix2 i e) = Mamba.proj P X (r + 128 * t + i) ⟨o + e.val, by omega⟩ := by
  pointwise [bT]
  refine Finset.sum_congr rfl fun d _ => ?_
  rw [ut_apply G ht, hw]

/-- A tile of the step sizes. -/
theorem dtT_apply (G : Good S P X r) {t : ℕ} (ht : t < 4) (i : Fin 128) (d : Fin 512) :
    dtT S t (ix2 i d) = Mamba.dt P X (r + 128 * t + i) d := by
  have hp (q : Fin 16) : (∑ e, ut S t (ix2 i e) * S.wxdt (ix2 e q)) = Mamba.proj P X (r + 128 * t + i) ⟨q.val, by omega⟩ :=
    Finset.sum_congr rfl fun e _ => congrArg₂ (· * ·) (ut_apply G ht i e) (G.wxdt e q)
  have hv : (∑ q, (∑ e, ut S t (ix2 i e) * S.wxdt (ix2 e q)) * S.wdt (ix2 q d)) + S.bdt (ix2 0 d)
      = ∑ q : Fin 16, Mamba.proj P X (r + 128 * t + i) ⟨q.val, by omega⟩ * P.wdt d q + P.bdt d :=
    congrArg₂ (· + ·) (Finset.sum_congr rfl fun q _ => congrArg₂ (· * ·) (hp q) (G.wdt q d)) (G.bdt d)
  pointwise [dtT]
  generalize (∑ q, (∑ e, ut S t (ix2 i e) * S.wxdt (ix2 e q)) * S.wdt (ix2 q d)) + S.bdt (ix2 0 d) = v at hv ⊢
  rw [zero_sub, hv]
  rfl

/-- The step sizes are the layer's. -/
theorem dtA_apply (G : Good S P X r) (k d : Fin 512) : dtA S (ix2 k d) = Mamba.dt P X (r + k) d := by
  unfold dtA
  rw [View.readCov_eq_canon']
  refine (congrArg (View.canon (Val := Elt Ideal) (tiles (dtT S))) (off1 _)).trans
    (canon_tiles (G := fun k d => Mamba.dt P X (r + k) d) (fun t ht i d => ?_) k d)
  rw [dtT_apply G ht, Nat.add_assoc]

/-- The convolved rows are the layer's. -/
theorem uA_apply (G : Good S P X r) (k d : Fin 512) : uA S (ix2 k d) = Mamba.u P X (r + k) d := by
  unfold uA
  rw [View.readCov_eq_canon']
  refine (congrArg (View.canon (Val := Elt Ideal) (tiles (conv S))) (off1 _)).trans
    (canon_tiles (G := fun k d => Mamba.u P X (r + k) d) (fun t ht i d => ?_) k d)
  rw [conv_apply G ht, Nat.add_assoc]

/-- The input factors are the layer's. -/
theorem bA_apply (G : Good S P X r) (k : Fin 512) (n : Fin 64) : bA S (ix2 k n) = Mamba.proj P X (r + k) ⟨16 + n.val, by omega⟩ := by
  unfold bA
  rw [View.readCov_eq_canon']
  refine (congrArg (View.canon (Val := Elt Ideal) (tilesB (bT S S.wxb))) (off2 _)).trans
    (canon_tilesB (G := fun k n => Mamba.proj P X (r + k) ⟨16 + n.val, by omega⟩) (fun t ht i n => ?_) k n)
  rw [bT_apply G S.wxb 16 (by decide) G.wxb ht, Nat.add_assoc]

/-- The output factors are the layer's. -/
theorem cA_apply (G : Good S P X r) (k : Fin 512) (n : Fin 64) : cA S (ix2 k n) = Mamba.proj P X (r + k) ⟨80 + n.val, by omega⟩ := by
  unfold cA
  rw [View.readCov_eq_canon']
  refine (congrArg (View.canon (Val := Elt Ideal) (tilesB (bT S S.wxc))) (off2 _)).trans
    (canon_tilesB (G := fun k n => Mamba.proj P X (r + k) ⟨80 + n.val, by omega⟩) (fun t ht i n => ?_) k n)
  rw [bT_apply G S.wxc 80 (by decide) G.wxc ht, Nat.add_assoc]

/-- The rates the kernel uses. -/
theorem atA_apply (G : Good S P X r) (n : Fin 64) (d : Fin 512) :
    atA S (ix2 n d) = ((-(n.val + 1 : ℝ) : ℝ) : EReal) * (((Real.log 2)⁻¹ : ℝ) : EReal) := by
  pointwise [atA]
  rw [G.at0, G.rate]
  exact congrArg _ (IdealRules.named_const.ideal_named_scalar _ _ _ _ rfl)

/-- A step's decay factors: the sixteen exponentials and their products are the 64 exponentials. -/
theorem decay_apply (G : Good S P X r) (dt : FVec Ideal S1x512 .f32) (n : Fin 64) (d : Fin 512) :
    decay (atA S) dt (ix2 n d) = Ideal.exp (dt (ix2 0 d) * P.A d n) := by
  have one (m : ℕ) (hm : m < 64) (y : EReal) : FloatOps.exp2 (F := Ideal) (φ := .f32) (atA S (ix2 ⟨m, hm⟩ d) * y) = Ideal.exp (y * ((-(m + 1 : ℝ) : ℝ) : EReal)) := by
    rw [atA_apply G]
    exact Mamba.exp2_rate _ (by have := Nat.cast_nonneg (α := ℝ) m; linarith) y
  have two (a b : ℕ) (y : EReal) : Ideal.exp (y * ((-(a + 1 : ℝ) : ℝ) : EReal)) * Ideal.exp (y * ((-(b + 1 : ℝ) : ℝ) : EReal))
      = Ideal.exp (y * ((-((a + b + 1 : ℕ) + 1 : ℝ) : ℝ) : EReal)) := by
    have ha := Nat.cast_nonneg (α := ℝ) a
    have hb := Nat.cast_nonneg (α := ℝ) b
    rw [Mamba.exp_rates _ _ (by linarith) (by linarith)]
    congr 3
    push_cast
    ring
  have hn := n.isLt
  rw [G.rate]
  pointwise [decay]
  split_ifs with h1 h2 h3
  · exact one n.val hn _
  all_goals
    simp only [one, two]
    refine congrArg (fun m : ℕ => Ideal.exp (dt (ix2 0 d) * ((-(m + 1 : ℝ) : ℝ) : EReal))) ?_
    try simp only []
    omega

/-- One step of the recurrence. -/
theorem step_apply (G : Good S P X r) {k : ℕ} (hk : k < 512) (h : FVec Ideal S64x512 .f32) (n : Fin 64) (d : Fin 512) :
    step S k h (ix2 n d) = Ideal.exp (Mamba.dt P X (r + k) d * P.A d n) * h (ix2 n d)
      + Mamba.dt P X (r + k) d * Mamba.u P X (r + k) d * Mamba.proj P X (r + k) ⟨16 + n.val, by omega⟩ := by
  have hm : k % 512 = k := Nat.mod_eq_of_lt hk
  have hd : extractStridedSlice S1x512 ![k % 512, 0] (dtA S) (sl_row k) (ix2 0 d) = Mamba.dt P X (r + k) d := by
    pointwise []
    rw [dtA_apply G]
    exact congrArg (fun m => Mamba.dt P X (r + m) d) hm
  pointwise [step]
  rw [decay_apply G, hd]
  pointwise [btA, wA]
  rw [bA_apply G, dtA_apply G, uA_apply G]
  simp only [hm]
  rw [mul_comm (Mamba.proj _ _ _ _)]

/-- The state after `k` steps of the block is the state before row `r + k`. -/
theorem hs_apply (G : Good S P X r) : ∀ (k : ℕ), k ≤ 512 → ∀ (n : Fin 64) (d : Fin 512), hs S k (ix2 n d) = Mamba.h P X (r + k) d n
  | 0, _, n, d => G.h0 n d
  | k + 1, hk, n, d => by
    show step S k (hs S k) (ix2 n d) = _
    rw [step_apply G (by omega), hs_apply G k (by omega)]
    exact (Mamba.h_succ P X (r + k) d n).symm

/-- The row a step writes. -/
theorem row_apply (G : Good S P X r) {k : ℕ} (hk : k < 512) (d : Fin 512) :
    row S k (ix2 0 d) = ∑ n : Fin 64, Mamba.proj P X (r + k) ⟨80 + n.val, by omega⟩ * Mamba.h P X (r + k + 1) d n := by
  have hm : k % 512 = k := Nat.mod_eq_of_lt hk
  pointwise [row]
  refine Finset.sum_congr rfl fun n _ => ?_
  rw [cA_apply G, hs_apply G (k + 1) hk]
  simp only [hm]
  rfl

/-- Rows of the result. -/
theorem out_apply (G : Good S P X r) {t : ℕ} (ht : t < 4) (i : Fin 128) (j : Fin 256) :
    out S t (ix3 0 i j) = Mamba.out P X (r + 128 * t + i) j := by
  have e (d : Fin 512) : (Rect.unit (s := S512x512) ![128 * (t % 4), 0] S128x512.size (in_r t)).toLoadRect.idx (ix2 i d)
      = ix2 ⟨128 * t + i.val, by omega⟩ d := by
    funext a
    match a with
    | ⟨0, _⟩ => exact Fin.ext (show 128 * (t % 4) + 1 * i.val = 128 * t + i.val by omega)
    | ⟨1, _⟩ => exact Fin.ext (show 0 + 1 * d.val = d.val by omega)
  have hy (d : Fin 512) : S.m24.view.readCov (yL S 64) (Rect.unit (s := S512x512) ![128 * (t % 4), 0] S128x512.size (in_r t)).toLoadRect (ix2 i d)
      = ∑ n : Fin 64, Mamba.proj P X (r + 128 * t + i) ⟨80 + n.val, by omega⟩ * Mamba.h P X (r + 128 * t + i + 1) d n := by
    rw [View.readCov_eq_canon', Nat.add_assoc r]
    exact (congrArg (View.canon (Val := Elt Ideal) (yL S 64)) (e d)).trans
      (canon_y S (G := fun k d => ∑ n : Fin 64, Mamba.proj P X (r + k) ⟨80 + n.val, by omega⟩ * Mamba.h P X (r + k + 1) d n)
        (fun k hk d => row_apply G hk d) ⟨128 * t + i.val, by omega⟩ d)
  have hg (d : Fin 512) : S.m23.view.readCov (tiles (gate S)) (Rect.unit (s := S512x512) ![128 * (t % 4), 0] S128x512.size (in_r t)).toLoadRect (ix2 i d)
      = Mamba.silu (Mamba.xz P X (r + 128 * t + i) ⟨512 + d.val, by omega⟩) := by
    rw [View.readCov_eq_canon', Nat.add_assoc r]
    refine (congrArg (View.canon (Val := Elt Ideal) (tiles (gate S))) (e d)).trans
      (canon_tiles (G := fun k d => Mamba.silu (Mamba.xz P X (r + k) ⟨512 + d.val, by omega⟩)) (fun t ht i d => ?_) ⟨128 * t + i.val, by omega⟩ d)
    rw [gate_apply G ht, Nat.add_assoc]
  pointwise [out]
  rw [ln_apply]
  unfold Mamba.out
  congr 1
  · funext x
    pointwise []
    refine Finset.sum_congr rfl fun d _ => ?_
    rw [hy, hg, ut_apply G ht, G.dpar, G.wout]
    rfl
  · exact funext G.ln2w
  · exact funext G.ln2b

end Cert.KernelIdeal.Block

end
-- ==== Proof.PointValue.lean ====
module

public import proofs.«01_k».proof.Proof.BlockRun
public import proofs.«01_k».proof.Proof.BlockRows

@[expose] public section

set_option maxRecDepth 16384

noncomputable section

/-! A grid point whose windows hold the layer's parameters and 512 rows of a sequence loads what `Good` asks for. -/

namespace Cert.KernelIdeal.Block

open Idealize.ShloMosaic Cert.KernelIdeal Cert.KernelIdeal.Gen

/-- A load through a rectangle of a whole memref reads the contents there. -/
theorem readAt_unread {s : Shape} {e : EltTy} (arg : Memref sig .tc .vmem s e) (h : arg.IsWhole) (x : Vec Ideal s e) (R : Rect s) :
    View.readAt (Elt Ideal) arg.view R.toLoadRect (h.unread x) = fun j => x (R.idx j) := by
  rw [View.readAt_eq_ld, h.read_unread]

/-- Through the whole rectangle it reads all of them. -/
theorem readAt_whole {s : Shape} {e : EltTy} (arg : Memref sig .tc .vmem s e) (h : arg.IsWhole) (x : Vec Ideal s e) {off : Fin s.rank → ℕ}
    (inb : ∀ a, off a + s.size a ≤ s.size a) (h0 : ∀ a, off a = 0) :
    View.readAt (Elt Ideal) arg.view (Rect.unit (s := s) off s.size inb).toLoadRect (h.unread x) = x := by
  rw [View.readAt_eq_ld, h.read_unread]
  exact View.ld_unit_lit inb x h0

/-- The windows of a grid point: the sequence's rows from `r` on, and the parameters. -/
structure Windows (P : Mamba.Weights) (X : ℕ → Fin 256 → EReal) (r : ℕ)
    (x0 : Vec Ideal S1x512x256 .f32) (x1 : Vec Ideal S256x1024 .f32) (x2 : Vec Ideal S512x16 .f32) (x3 : Vec Ideal S512x64 .f32) (x4 : Vec Ideal S512x64 .f32) (x5 : Vec Ideal S16x512 .f32) (x6 : Vec Ideal S1x512 .f32) (x7 : Vec Ideal S64x512 .f32) (x8 : Vec Ideal S4x512 .f32) (x9 : Vec Ideal S1x512 .f32) (x10 : Vec Ideal S1x512 .f32) (x11 : Vec Ideal S1x256 .f32) (x12 : Vec Ideal S1x256 .f32) (x13 : Vec Ideal S1x256 .f32) (x14 : Vec Ideal S1x256 .f32) (x15 : Vec Ideal S512x256 .f32) : Prop where
  x : ∀ (k : Fin 512) (j : Fin 256), x0 (ix3 0 k j) = X (r + k) j
  win : ∀ d e, x1 (ix2 d e) = P.win e d
  wxdt : ∀ d (e : Fin 16), x2 (ix2 d e) = P.wx ⟨e.val, by omega⟩ d
  wxb : ∀ d (e : Fin 64), x3 (ix2 d e) = P.wx ⟨16 + e.val, by omega⟩ d
  wxc : ∀ d (e : Fin 64), x4 (ix2 d e) = P.wx ⟨80 + e.val, by omega⟩ d
  wdt : ∀ e d, x5 (ix2 e d) = P.wdt d e
  bdt : ∀ d, x6 (ix2 0 d) = P.bdt d
  at0 : ∀ n d, x7 (ix2 n d) = P.A d n
  cw : ∀ j d, x8 (ix2 j d) = P.cw d j
  cb : ∀ d, x9 (ix2 0 d) = P.cb d
  dpar : ∀ d, x10 (ix2 0 d) = P.D d
  ln1w : ∀ d, x11 (ix2 0 d) = P.ln1w d
  ln1b : ∀ d, x12 (ix2 0 d) = P.ln1b d
  ln2w : ∀ d, x13 (ix2 0 d) = P.ln2w d
  ln2b : ∀ d, x14 (ix2 0 d) = P.ln2b d
  wout : ∀ d j, x15 (ix2 d j) = P.wout j d
  rate : ∀ d (n : Fin 64), P.A d n = ((-(n.val + 1 : ℝ) : ℝ) : EReal)

variable (arg2 : Memref sig .tc .vmem S1x512x256 .f32) (harg2 : arg2.IsWhole)
    (arg3 : Memref sig .tc .vmem S256x1024 .f32) (harg3 : arg3.IsWhole)
    (arg4 : Memref sig .tc .vmem S512x16 .f32) (harg4 : arg4.IsWhole)
    (arg5 : Memref sig .tc .vmem S512x64 .f32) (harg5 : arg5.IsWhole)
    (arg6 : Memref sig .tc .vmem S512x64 .f32) (harg6 : arg6.IsWhole)
    (arg7 : Memref sig .tc .vmem S16x512 .f32) (harg7 : arg7.IsWhole)
    (arg8 : Memref sig .tc .vmem S1x512 .f32) (harg8 : arg8.IsWhole)
    (arg9 : Memref sig .tc .vmem S64x512 .f32) (harg9 : arg9.IsWhole)
    (arg10 : Memref sig .tc .vmem S4x512 .f32) (harg10 : arg10.IsWhole)
    (arg11 : Memref sig .tc .vmem S1x512 .f32) (harg11 : arg11.IsWhole)
    (arg12 : Memref sig .tc .vmem S1x512 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256 .f32) (harg16 : arg16.IsWhole)
    (arg17 : Memref sig .tc .vmem S512x256 .f32) (harg17 : arg17.IsWhole)
    (arg19 : Memref sig .tc .vmem S64x512 .f32) (harg19 : arg19.IsWhole)
    (arg20 : Memref sig .tc .vmem S520x512 .f32) (harg20 : arg20.IsWhole)
    (arg21 arg22 arg23 arg24 : Memref sig .tc .vmem S512x512 .f32) (arg25 arg26 : Memref sig .tc .vmem S512x64 .f32)
    {x0 : Vec Ideal S1x512x256 .f32} {x1 : Vec Ideal S256x1024 .f32} {x2 : Vec Ideal S512x16 .f32} {x3 : Vec Ideal S512x64 .f32} {x4 : Vec Ideal S512x64 .f32} {x5 : Vec Ideal S16x512 .f32} {x6 : Vec Ideal S1x512 .f32} {x7 : Vec Ideal S64x512 .f32} {x8 : Vec Ideal S4x512 .f32} {x9 : Vec Ideal S1x512 .f32} {x10 : Vec Ideal S1x512 .f32} {x11 : Vec Ideal S1x256 .f32} {x12 : Vec Ideal S1x256 .f32} {x13 : Vec Ideal S1x256 .f32} {x14 : Vec Ideal S1x256 .f32} {x15 : Vec Ideal S512x256 .f32}
    {P : Mamba.Weights} {X : ℕ → Fin 256 → EReal} {r : ℕ}

/-- What a point loads, at a state and earlier rows that are the layer's. -/
theorem loads_good (W : Windows P X r x0 x1 x2 x3 x4 x5 x6 x7 x8 x9 x10 x11 x12 x13 x14 x15)
    (h0 : Vec Ideal S64x512 .f32) (head : Vec Ideal S8x512 .f32) (hh : ∀ n d, h0 (ix2 n d) = Mamba.h P X r d n)
    (hd : ∀ (k : Fin 8) d, 5 ≤ k.val → head (ix2 k d) = Mamba.pad P X (r + (k.val - 5)) d) :
    Good (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 arg21 arg22 arg23 arg24 arg25 arg26 x0 x1 x2 x3 x4 x5 x6 x7 x8 x9 x10 x11 x12 x13 x14 x15 h0 head) P X r := by
  have tap (k : ℕ) (hk : k < 4) (inb : ∀ a, (![k, 0] : Fin 2 → ℕ) a + S1x512.size a ≤ S4x512.size a) (d : Fin 512) :
      View.readAt (Elt Ideal) arg10.view (Rect.unit (s := S4x512) ![k, 0] S1x512.size inb).toLoadRect (harg10.unread x8) (ix2 0 d) = P.cw d ⟨k, hk⟩ := by
    rw [readAt_unread]
    refine (congrArg x8 (?_ : _ = ix2 ⟨k, hk⟩ d)).trans (W.cw _ d)
    funext a
    match a with
    | ⟨0, _⟩ => exact Fin.ext (show k + 1 * 0 = k by omega)
    | ⟨1, _⟩ => exact Fin.ext (show 0 + 1 * d.val = d.val by omega)
  constructor
  case x =>
    intro t ht i j
    dsimp only [loads]
    rw [readAt_unread]
    refine (congrArg x0 (?_ : _ = ix3 0 ⟨128 * t + i.val, by omega⟩ j)).trans ((W.x _ j).trans (congrArg (fun n => X n j) (Nat.add_assoc r (128 * t) i.val).symm))
    funext a
    match a with
    | ⟨0, _⟩ => exact Fin.ext rfl
    | ⟨1, _⟩ => exact Fin.ext (show 128 * (t % 4) + 1 * i.val = 128 * t + i.val by omega)
    | ⟨2, _⟩ => exact Fin.ext (show 0 + 1 * j.val = j.val by omega)
  case cw0 => exact fun d => tap 0 (by decide) _ d
  case cw1 => exact fun d => tap 1 (by decide) _ d
  case cw2 => exact fun d => tap 2 (by decide) _ d
  case cw3 => exact fun d => tap 3 (by decide) _ d
  case h0 => exact hh
  case head => exact hd
  case rate => exact W.rate
  case win =>
    intro d e
    dsimp only [loads]
    rw [readAt_whole _ harg3 x1 _ (by decide)]
    exact W.win d e
  case wxdt =>
    intro d e
    dsimp only [loads]
    rw [readAt_whole _ harg4 x2 _ (by decide)]
    exact W.wxdt d e
  case wxb =>
    intro d e
    dsimp only [loads]
    rw [readAt_whole _ harg5 x3 _ (by decide)]
    exact W.wxb d e
  case wxc =>
    intro d e
    dsimp only [loads]
    rw [readAt_whole _ harg6 x4 _ (by decide)]
    exact W.wxc d e
  case wdt =>
    intro d e
    dsimp only [loads]
    rw [readAt_whole _ harg7 x5 _ (by decide)]
    exact W.wdt d e
  case bdt =>
    intro d
    dsimp only [loads]
    rw [readAt_whole _ harg8 x6 _ (by decide)]
    exact W.bdt d
  case at0 =>
    intro n d
    dsimp only [loads]
    rw [readAt_whole _ harg9 x7 _ (by decide)]
    exact W.at0 n d
  case cb =>
    intro d
    dsimp only [loads]
    rw [readAt_whole _ harg11 x9 _ (by decide)]
    exact W.cb d
  case dpar =>
    intro d
    dsimp only [loads]
    rw [readAt_whole _ harg12 x10 _ (by decide)]
    exact W.dpar d
  case ln1w =>
    intro d
    dsimp only [loads]
    rw [readAt_whole _ harg13 x11 _ (by decide)]
    exact W.ln1w d
  case ln1b =>
    intro d
    dsimp only [loads]
    rw [readAt_whole _ harg14 x12 _ (by decide)]
    exact W.ln1b d
  case ln2w =>
    intro d
    dsimp only [loads]
    rw [readAt_whole _ harg15 x13 _ (by decide)]
    exact W.ln2w d
  case ln2b =>
    intro d
    dsimp only [loads]
    rw [readAt_whole _ harg16 x14 _ (by decide)]
    exact W.ln2b d
  case wout =>
    intro d j
    dsimp only [loads]
    rw [readAt_whole _ harg17 x15 _ (by decide)]
    exact W.wout d j

/-- The first chunk of a sequence. -/
theorem loadsA_good (W : Windows P X 0 x0 x1 x2 x3 x4 x5 x6 x7 x8 x9 x10 x11 x12 x13 x14 x15) :
    Good (loadsA arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 arg20 arg21 arg22 arg23 arg24 arg25 arg26 x0 x1 x2 x3 x4 x5 x6 x7 x8 x9 x10 x11 x12 x13 x14 x15) P X 0 := by
  refine loads_good arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 arg21 arg22 arg23 arg24 arg25 arg26 W _ _ ?_ ?_
  · intro n d
    rw [View.readCov_eq_canon', View.canon_cons_unit_lit _ _ _ (by decide)]
    pointwise [k0_pay2]
    rfl
  · intro k d h
    rw [Mamba.pad, if_pos (by omega)]
    pointwise [k0_pay3]

/-- A later chunk, over what the chunk before left. -/
theorem loadsB_good (W : Windows P X r x0 x1 x2 x3 x4 x5 x6 x7 x8 x9 x10 x11 x12 x13 x14 x15)
    (xs0 : Vec Ideal S64x512 .f32) (xs1 : Vec Ideal S520x512 .f32) (hh : ∀ n d, xs0 (ix2 n d) = Mamba.h P X r d n)
    (hd : ∀ (k : Fin 8) d, 5 ≤ k.val → xs1 (ix2 ⟨512 + k.val, by omega⟩ d) = Mamba.pad P X (r + (k.val - 5)) d) :
    Good (loadsB arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg19 harg19 arg20 harg20 arg21 arg22 arg23 arg24 arg25 arg26 x0 x1 x2 x3 x4 x5 x6 x7 x8 x9 x10 x11 x12 x13 x14 x15 xs0 xs1) P X r := by
  refine loads_good arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg20 arg21 arg22 arg23 arg24 arg25 arg26 W _ _ ?_ ?_
  · intro n d
    exact (congrFun (readAt_whole _ harg19 xs0 _ (by decide)) _).trans (hh n d)
  · intro k d h
    pointwise [k0_pay4]
    rw [readAt_unread]
    refine (congrArg xs1 (?_ : _ = ix2 ⟨512 + k.val, by omega⟩ d)).trans (hd k d h)
    funext a
    match a with
    | ⟨0, _⟩ => exact Fin.ext (show 512 + 1 * k.val = 512 + k.val by omega)
    | ⟨1, _⟩ => exact Fin.ext (show 0 + 1 * d.val = d.val by omega)

/-- What a point with good loads leaves: the result's rows, the state after the block, and the rows the next block needs. -/
theorem leaves_out {S : Loads Ideal} (G : Good S P X r) (k : Fin 512) (j : Fin 256) :
    View.canon (Val := Elt Ideal) (outL S) (ix3 0 k j) = Mamba.out P X (r + k) j :=
  canon_out S (G := fun k j => Mamba.out P X (r + k) j) (fun t ht i j => by rw [out_apply G ht, Nat.add_assoc]) k j

/-- The state a point leaves, by entry. -/
theorem leaves_state {S : Loads Ideal} (G : Good S P X r) (L : List (View.Piece (Elt Ideal) S64x512 .f32)) (n : Fin 64) (d : Fin 512) :
    View.canon (Val := Elt Ideal) (⟨Rect.unit (s := S64x512) ![0, 0] S64x512.size inb_S64x512_S64x512_0_0, shapeCast S64x512 (hs S 512) shapeCasts_S64x512_S64x512⟩ :: L) (ix2 n d)
      = Mamba.h P X (r + 512) d n := by
  rw [View.canon_cons_unit_lit _ _ _ (by decide), shapeCast_self]
  exact hs_apply G 512 (le_refl _) n d

/-- The last rows before the convolution, which the next point reads. -/
theorem leaves_rows {S : Loads Ideal} (G : Good S P X r) (k : Fin 8) (d : Fin 512) :
    View.canon (Val := Elt Ideal) (convL S) (ix2 ⟨512 + k.val, by omega⟩ d) = Mamba.pad P X (r + 512 + k.val - 5) d :=
  (canon_pad G (512 + k.val) (by omega) (by omega) d).trans (congrArg (fun n => Mamba.pad P X n d) (by omega))

end Cert.KernelIdeal.Block

end
-- ==== Proof.PointOuts.lean ====
module

public import proofs.«01_k».proof.Proof.PointValue

@[expose] public section

set_option maxRecDepth 16384

noncomputable section

/-! What a grid point leaves, when its windows hold the layer's parameters and 512 rows of a sequence: the layer's rows, the
    state after them, and the last rows before the convolution. -/

namespace Cert.KernelIdeal.Block

open Idealize.ShloMosaic Cert.KernelIdeal Cert.KernelIdeal.Gen

variable (c : Dev nD) (i : grid0.Coords)
    (arg2 : Memref sig .tc .vmem S1x512x256 .f32) (harg2 : arg2.IsWhole)
    (arg3 : Memref sig .tc .vmem S256x1024 .f32) (harg3 : arg3.IsWhole)
    (arg4 : Memref sig .tc .vmem S512x16 .f32) (harg4 : arg4.IsWhole)
    (arg5 : Memref sig .tc .vmem S512x64 .f32) (harg5 : arg5.IsWhole)
    (arg6 : Memref sig .tc .vmem S512x64 .f32) (harg6 : arg6.IsWhole)
    (arg7 : Memref sig .tc .vmem S16x512 .f32) (harg7 : arg7.IsWhole)
    (arg8 : Memref sig .tc .vmem S1x512 .f32) (harg8 : arg8.IsWhole)
    (arg9 : Memref sig .tc .vmem S64x512 .f32) (harg9 : arg9.IsWhole)
    (arg10 : Memref sig .tc .vmem S4x512 .f32) (harg10 : arg10.IsWhole)
    (arg11 : Memref sig .tc .vmem S1x512 .f32) (harg11 : arg11.IsWhole)
    (arg12 : Memref sig .tc .vmem S1x512 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S1x256 .f32) (harg16 : arg16.IsWhole)
    (arg17 : Memref sig .tc .vmem S512x256 .f32) (harg17 : arg17.IsWhole)
    (arg18 : Memref sig .tc .vmem S1x512x256 .f32) (harg18 : arg18.IsWhole)
    (arg19 : Memref sig .tc .vmem S64x512 .f32) (harg19 : arg19.IsWhole)
    (arg20 : Memref sig .tc .vmem S520x512 .f32) (harg20 : arg20.IsWhole)
    (arg21 : Memref sig .tc .vmem S512x512 .f32) (harg21 : arg21.IsWhole)
    (arg22 : Memref sig .tc .vmem S512x512 .f32) (harg22 : arg22.IsWhole)
    (arg23 : Memref sig .tc .vmem S512x512 .f32) (harg23 : arg23.IsWhole)
    (arg24 : Memref sig .tc .vmem S512x512 .f32) (harg24 : arg24.IsWhole)
    (arg25 : Memref sig .tc .vmem S512x64 .f32) (harg25 : arg25.IsWhole)
    (arg26 : Memref sig .tc .vmem S512x64 .f32) (harg26 : arg26.IsWhole)
    {x0 : Vec Ideal S1x512x256 .f32} {x1 : Vec Ideal S256x1024 .f32} {x2 : Vec Ideal S512x16 .f32} {x3 : Vec Ideal S512x64 .f32} {x4 : Vec Ideal S512x64 .f32} {x5 : Vec Ideal S16x512 .f32} {x6 : Vec Ideal S1x512 .f32} {x7 : Vec Ideal S64x512 .f32} {x8 : Vec Ideal S4x512 .f32} {x9 : Vec Ideal S1x512 .f32} {x10 : Vec Ideal S1x512 .f32} {x11 : Vec Ideal S1x256 .f32} {x12 : Vec Ideal S1x256 .f32} {x13 : Vec Ideal S1x256 .f32} {x14 : Vec Ideal S1x256 .f32} {x15 : Vec Ideal S512x256 .f32}
    {P : Mamba.Weights} {X : ℕ → Fin 256 → EReal} {r : ℕ}

/-- The block a point leaves, at the first chunk of a sequence: the layer's rows. -/
theorem block_A (hc0 : cond0_0 i) (hc1 : ¬cond0_1 i) (W : Windows P X 0 x0 x1 x2 x3 x4 x5 x6 x7 x8 x9 x10 x11 x12 x13 x14 x15) (k : Fin 512) (j : Fin 256) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 (ix3 0 k j) = Mamba.out P X (0 + k) j := by
  unfold out0_A_16
  rw [View.read_writes_junk_eq_canon, out_A]
  exact leaves_out (loadsA_good _ _ _ _ _ _ _ _ _ _ _ _ _ _ _ _ _ _ _ _ _ _ _ _ _ _ _ _ _ _ _ _ _ _ _ _ _ _ _ _ W) k j

/-- The state it leaves. -/
theorem carry_A (hc0 : cond0_0 i) (hc1 : ¬cond0_1 i) (W : Windows P X 0 x0 x1 x2 x3 x4 x5 x6 x7 x8 x9 x10 x11 x12 x13 x14 x15) (n : Fin 64) (d : Fin 512) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 (ix2 n d) = Mamba.h P X (0 + 512) d n := by
  unfold sout0_A_0
  rw [View.read_writes_junk_eq_canon, state_A]
  exact leaves_state (loadsA_good _ _ _ _ _ _ _ _ _ _ _ _ _ _ _ _ _ _ _ _ _ _ _ _ _ _ _ _ _ _ _ _ _ _ _ _ _ _ _ _ W) _ n d

/-- The last rows before the convolution it leaves. -/
theorem tail_A (hc0 : cond0_0 i) (hc1 : ¬cond0_1 i) (W : Windows P X 0 x0 x1 x2 x3 x4 x5 x6 x7 x8 x9 x10 x11 x12 x13 x14 x15) (k : Fin 8) (d : Fin 512) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 (ix2 ⟨512 + k.val, by omega⟩ d) = Mamba.pad P X (0 + 512 + k.val - 5) d := by
  unfold sout0_A_1
  rw [View.read_writes_junk_eq_canon, conv_A]
  exact leaves_rows (loadsA_good _ _ _ _ _ _ _ _ _ _ _ _ _ _ _ _ _ _ _ _ _ _ _ _ _ _ _ _ _ _ _ _ _ _ _ _ _ _ _ _ W) k d

/-- The block a point leaves, at a later chunk: the layer's rows. -/
theorem block_B (hc0 : ¬cond0_0 i) (hc1 : cond0_1 i) (W : Windows P X r x0 x1 x2 x3 x4 x5 x6 x7 x8 x9 x10 x11 x12 x13 x14 x15)
    (xs0 : Vec Ideal S64x512 .f32) (xs1 : Vec Ideal S520x512 .f32) (hh : ∀ n d, xs0 (ix2 n d) = Mamba.h P X r d n)
    (hd : ∀ (k : Fin 8) d, 5 ≤ k.val → xs1 (ix2 ⟨512 + k.val, by omega⟩ d) = Mamba.pad P X (r + (k.val - 5)) d) (k : Fin 512) (j : Fin 256) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs1 (ix3 0 k j) = Mamba.out P X (r + k) j := by
  unfold out0_B_16
  rw [View.read_writes_junk_eq_canon, out_B]
  exact leaves_out (loadsB_good _ _ _ _ _ _ _ _ _ _ _ _ _ _ _ _ _ _ _ _ _ _ _ _ _ _ _ _ _ _ _ _ _ _ _ _ _ _ _ _ _ _ W _ _ hh hd) k j

/-- The state it leaves. -/
theorem carry_B (hc0 : ¬cond0_0 i) (hc1 : cond0_1 i) (W : Windows P X r x0 x1 x2 x3 x4 x5 x6 x7 x8 x9 x10 x11 x12 x13 x14 x15)
    (xs0 : Vec Ideal S64x512 .f32) (xs1 : Vec Ideal S520x512 .f32) (hh : ∀ n d, xs0 (ix2 n d) = Mamba.h P X r d n)
    (hd : ∀ (k : Fin 8) d, 5 ≤ k.val → xs1 (ix2 ⟨512 + k.val, by omega⟩ d) = Mamba.pad P X (r + (k.val - 5)) d) (n : Fin 64) (d : Fin 512) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs1 (ix2 n d) = Mamba.h P X (r + 512) d n := by
  unfold sout0_B_0
  rw [View.read_writes_junk_eq_canon, state_B]
  exact leaves_state (loadsB_good _ _ _ _ _ _ _ _ _ _ _ _ _ _ _ _ _ _ _ _ _ _ _ _ _ _ _ _ _ _ _ _ _ _ _ _ _ _ _ _ _ _ W _ _ hh hd) _ n d

/-- The last rows before the convolution it leaves. -/
theorem tail_B (hc0 : ¬cond0_0 i) (hc1 : cond0_1 i) (W : Windows P X r x0 x1 x2 x3 x4 x5 x6 x7 x8 x9 x10 x11 x12 x13 x14 x15)
    (xs0 : Vec Ideal S64x512 .f32) (xs1 : Vec Ideal S520x512 .f32) (hh : ∀ n d, xs0 (ix2 n d) = Mamba.h P X r d n)
    (hd : ∀ (k : Fin 8) d, 5 ≤ k.val → xs1 (ix2 ⟨512 + k.val, by omega⟩ d) = Mamba.pad P X (r + (k.val - 5)) d) (k : Fin 8) (d : Fin 512) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0 xs1 (ix2 ⟨512 + k.val, by omega⟩ d) = Mamba.pad P X (r + 512 + k.val - 5) d := by
  unfold sout0_B_1
  rw [View.read_writes_junk_eq_canon, conv_B]
  exact leaves_rows (loadsB_good _ _ _ _ _ _ _ _ _ _ _ _ _ _ _ _ _ _ _ _ _ _ _ _ _ _ _ _ _ _ _ _ _ _ _ _ _ _ _ _ _ _ W _ _ hh hd) k d

end Cert.KernelIdeal.Block

end
-- ==== Proof.EntryValue.lean ====
module

public import proofs.«01_k».proof.Proof.PointValue
public import Idealize.ShloMosaic.Lib.Pipeline.ValueKit
public import Idealize.ShloMosaic.Lib.StableHlo.ReadAt

@[expose] public section

set_option maxRecDepth 16384

noncomputable section

/-! What the windows of each grid point hold: rows of a sequence and the layer's parameters, as the host laid them out. -/

namespace Cert.KernelIdeal.Entry

open Idealize.ShloMosaic Idealize.ShloMosaic.TcCoe Cert.KernelIdeal Cert.KernelIdeal.Gen

variable (m : (ℓ : Loc nD τ sig) → Buf (Elt Ideal) ℓ) (c : Dev nD)

/-- The parameters of the call. -/
def P : Mamba.Weights :=
  Mamba.params (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))

/-- Sequence `b` of the call. -/
def X (b : ℕ) : ℕ → Fin 256 → EReal := Mamba.seqs (m ((c : Thread nD τ).loc main_arg0)) b

/-- The buffers at the region's entry are those the host operations before it leave. -/
theorem V_eq (b : Ref sig .tc) : V m c b = StableHlo.after hostOps0 (fun b => m (c, b)) (Proc.devRef .tc b) := by
  rw [V, V0, List.flatten_cons, List.flatten_nil, List.append_nil]

/-- The input projection, transposed. -/
theorem win (d : Fin 256) (e : Fin 1024) : V m c main_v4 (ix2 d e) = (P m c).win e d := by
  show _ = (m ((c : Thread nD τ).loc main_arg5)) (ix2 e d)
  rw [V_eq]; unfold hostOps0; after_reads_at

/-- The second projection's columns for the step sizes. -/
theorem wxdt (d : Fin 512) (e : Fin 16) : V m c main_v6 (ix2 d e) = (P m c).wx ⟨e.val, by omega⟩ d := by
  show _ = (m ((c : Thread nD τ).loc main_arg8)) (ix2 ⟨e.val, by omega⟩ d)
  rw [V_eq]; unfold hostOps0; after_reads_at

/-- The second projection's columns for the input factors. -/
theorem wxb (d : Fin 512) (e : Fin 64) : V m c main_v7 (ix2 d e) = (P m c).wx ⟨16 + e.val, by omega⟩ d := by
  show _ = (m ((c : Thread nD τ).loc main_arg8)) (ix2 ⟨16 + e.val, by omega⟩ d)
  rw [V_eq]; unfold hostOps0; after_reads_at

/-- The second projection's columns for the output factors. -/
theorem wxc (d : Fin 512) (e : Fin 64) : V m c main_v8 (ix2 d e) = (P m c).wx ⟨80 + e.val, by omega⟩ d := by
  show _ = (m ((c : Thread nD τ).loc main_arg8)) (ix2 ⟨80 + e.val, by omega⟩ d)
  rw [V_eq]; unfold hostOps0; after_reads_at

/-- The projection of the step sizes, transposed. -/
theorem wdt (e : Fin 16) (d : Fin 512) : V m c main_v9 (ix2 e d) = (P m c).wdt d e := by
  show _ = (m ((c : Thread nD τ).loc main_arg9)) (ix2 d e)
  rw [V_eq]; unfold hostOps0; after_reads_at

/-- The output projection, transposed. -/
theorem wout (d : Fin 512) (j : Fin 256) : V m c main_v10 (ix2 d j) = (P m c).wout j d := by
  show _ = (m ((c : Thread nD τ).loc main_arg13)) (ix2 j d)
  rw [V_eq]; unfold hostOps0; after_reads_at

/-- The decay rates, transposed. -/
theorem at0 (n : Fin 64) (d : Fin 512) : V m c main_v13 (ix2 n d) = (P m c).A d n := by
  show _ = -Ideal.exp ((m ((c : Thread nD τ).loc main_arg11)) (ix2 d n))
  rw [V_eq]; unfold hostOps0; after_reads_at

/-- The taps of the convolution, transposed. -/
theorem cw (j : Fin 4) (d : Fin 512) : V m c main_v14 (ix2 j d) = (P m c).cw d j := by
  show _ = (m ((c : Thread nD τ).loc main_arg6)) (ix2 d j)
  rw [V_eq]; unfold hostOps0; after_reads_at

/-- The bias of the step sizes, as a row. -/
theorem bdt (d : Fin 512) : V m c main_v15 (ix2 0 d) = (P m c).bdt d := by
  show _ = (m ((c : Thread nD τ).loc main_arg10)) (ix1 d)
  rw [V_eq]; unfold hostOps0; after_reads_at

/-- The bias of the convolution, as a row. -/
theorem cb (d : Fin 512) : V m c main_v16 (ix2 0 d) = (P m c).cb d := by
  show _ = (m ((c : Thread nD τ).loc main_arg7)) (ix1 d)
  rw [V_eq]; unfold hostOps0; after_reads_at

/-- The skip's factors, as a row. -/
theorem dpar (d : Fin 512) : V m c main_v17 (ix2 0 d) = (P m c).D d := by
  show _ = (m ((c : Thread nD τ).loc main_arg12)) (ix1 d)
  rw [V_eq]; unfold hostOps0; after_reads_at

/-- The first normalisation's weights, as a row. -/
theorem ln1w (d : Fin 256) : V m c main_v18 (ix2 0 d) = (P m c).ln1w d := by
  show _ = (m ((c : Thread nD τ).loc main_arg1)) (ix1 d)
  rw [V_eq]; unfold hostOps0; after_reads_at

/-- The first normalisation's bias, as a row. -/
theorem ln1b (d : Fin 256) : V m c main_v19 (ix2 0 d) = (P m c).ln1b d := by
  show _ = (m ((c : Thread nD τ).loc main_arg2)) (ix1 d)
  rw [V_eq]; unfold hostOps0; after_reads_at

/-- The second normalisation's weights, as a row. -/
theorem ln2w (d : Fin 256) : V m c main_v20 (ix2 0 d) = (P m c).ln2w d := by
  show _ = (m ((c : Thread nD τ).loc main_arg3)) (ix1 d)
  rw [V_eq]; unfold hostOps0; after_reads_at

/-- The second normalisation's bias, as a row. -/
theorem ln2b (d : Fin 256) : V m c main_v21 (ix2 0 d) = (P m c).ln2b d := by
  show _ = (m ((c : Thread nD τ).loc main_arg4)) (ix1 d)
  rw [V_eq]; unfold hostOps0; after_reads_at

end Cert.KernelIdeal.Entry

end
-- ==== Proof.EntryRows.lean ====
module

public import proofs.«01_k».proof.Proof.EntryValue
public import Idealize.ShloMosaic.Lib.Pipeline.ValueKit
public import Idealize.ShloMosaic.Lib.StableHlo.ReadAt

@[expose] public section

set_option maxRecDepth 16384

noncomputable section

/-! What the array of rows holds: row `l` of sequence `b`. -/

namespace Cert.KernelIdeal.Entry

open Idealize.ShloMosaic Idealize.ShloMosaic.TcCoe Cert.KernelIdeal Cert.KernelIdeal.Gen

variable (m : (ℓ : Loc nD τ sig) → Buf (Elt Ideal) ℓ) (c : Dev nD)

/-- The array of rows as the host built it: the first four sequences are the images, the last four their transposes. -/
theorem rows_host (b : Fin 8) (l : Fin 4096) (j : Fin 256) : V m c main_v3 (ix3 b l j) =
    if h : b.val < 4 then m ((c : Thread nD τ).loc main_arg0) (ix4 ⟨b.val, h⟩ ⟨l.val / 64, by omega⟩ ⟨l.val % 64, by omega⟩ j)
    else m ((c : Thread nD τ).loc main_arg0) (ix4 ⟨b.val - 4, by omega⟩ ⟨l.val % 64, by omega⟩ ⟨l.val / 64, by omega⟩ j) := by
  rw [V_eq]; unfold hostOps0; after_reads_at

/-- The array of rows: row `l` of sequence `b`. -/
theorem rows (b : Fin 8) (l : Fin 4096) (j : Fin 256) : V m c main_v3 (ix3 b l j) = X m c b.val l.val j :=
  (rows_host m c b l j).trans (Mamba.seqs_host _ b l j)

end Cert.KernelIdeal.Entry

end
-- ==== Proof.WindowValue.lean ====
module

public import proofs.«01_k».proof.Proof.EntryRows
public import Idealize.ShloMosaic.Lib.Pipeline.ValueKit
public import Idealize.ShloMosaic.Lib.StableHlo.ReadAt

@[expose] public section

set_option maxRecDepth 16384

noncomputable section

/-! What the windows of each grid point hold. -/

namespace Cert.KernelIdeal.Entry

open Idealize.ShloMosaic Idealize.ShloMosaic.TcCoe Cert.KernelIdeal Cert.KernelIdeal.Gen

variable (m : (ℓ : Loc nD τ sig) → Buf (Elt Ideal) ℓ) (c : Dev nD)

/-- The blocks the windows take: the rows' window follows the point, the parameters' are whole. -/
theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] :=
  (by decide +kernel : ∀ t : Fin grid0.N, _)

/-- There are 64 grid points. -/
theorem lt64 (t : Fin cfg0.N) : t.val < 64 := lt_of_lt_of_eq t.isLt N_0

/-- The rates the kernel builds its decays from are minus the state numbers. -/
def Rates : Prop := ∀ d (n : Fin 64), (P m c).A d n = ((-(n.val + 1 : ℝ) : ℝ) : EReal)

set_option maxHeartbeats 2000000 in
/-- The windows of point `t`: 512 rows of sequence `t / 8` from row `512 · (t % 8)` on, and the parameters. -/
theorem windows (hr : Rates m c) (t : Fin cfg0.N) :
    Block.Windows (P m c) (X m c (t.val / 8)) (512 * (t.val % 8)) (iblk m c 0 t) (iblk m c 1 t) (iblk m c 2 t) (iblk m c 3 t)
      (iblk m c 4 t) (iblk m c 5 t) (iblk m c 6 t) (iblk m c 7 t) (iblk m c 8 t) (iblk m c 9 t) (iblk m c 10 t) (iblk m c 11 t)
      (iblk m c 12 t) (iblk m c 13 t) (iblk m c 14 t) (iblk m c 15 t) := by
  have ht := lt64 t
  constructor
  case rate => exact hr
  case x =>
    intro k j
    rw [← rows m c ⟨t.val / 8, by omega⟩ ⟨512 * (t.val % 8) + k.val, by omega⟩ j]
    have h := (idx t).1; blk_ext [iblk, h]
  case win => intro d e; rw [← win]; have h := (idx t).2.1; blk_ext [iblk, h]
  case wxdt => intro d e; rw [← wxdt]; have h := (idx t).2.2.1; blk_ext [iblk, h]
  case wxb => intro d e; rw [← wxb]; have h := (idx t).2.2.2.1; blk_ext [iblk, h]
  case wxc => intro d e; rw [← wxc]; have h := (idx t).2.2.2.2.1; blk_ext [iblk, h]
  case wdt => intro d e; rw [← wdt]; have h := (idx t).2.2.2.2.2.1; blk_ext [iblk, h]
  case bdt => intro d; rw [← bdt]; have h := (idx t).2.2.2.2.2.2.1; blk_ext [iblk, h]
  case at0 => intro d e; rw [← at0]; have h := (idx t).2.2.2.2.2.2.2.1; blk_ext [iblk, h]
  case cw => intro d e; rw [← cw]; have h := (idx t).2.2.2.2.2.2.2.2.1; blk_ext [iblk, h]
  case cb => intro d; rw [← cb]; have h := (idx t).2.2.2.2.2.2.2.2.2.1; blk_ext [iblk, h]
  case dpar => intro d; rw [← dpar]; have h := (idx t).2.2.2.2.2.2.2.2.2.2.1; blk_ext [iblk, h]
  case ln1w => intro d; rw [← ln1w]; have h := (idx t).2.2.2.2.2.2.2.2.2.2.2.1; blk_ext [iblk, h]
  case ln1b => intro d; rw [← ln1b]; have h := (idx t).2.2.2.2.2.2.2.2.2.2.2.2.1; blk_ext [iblk, h]
  case ln2w => intro d; rw [← ln2w]; have h := (idx t).2.2.2.2.2.2.2.2.2.2.2.2.2.1; blk_ext [iblk, h]
  case ln2b => intro d; rw [← ln2b]; have h := (idx t).2.2.2.2.2.2.2.2.2.2.2.2.2.2.1; blk_ext [iblk, h]
  case wout => intro d e; rw [← wout]; have h := (idx t).2.2.2.2.2.2.2.2.2.2.2.2.2.2.2; blk_ext [iblk, h]

end Cert.KernelIdeal.Entry

end
-- ==== Proof.ArrayValue.lean ====
module

public import proofs.«01_k».proof.Proof.PointOuts
public import proofs.«01_k».proof.Proof.WindowValue

@[expose] public section

set_option maxRecDepth 16384

noncomputable section

/-! What the kernel's array holds when the region ends: row `l` of sequence `b` is row `l` of the layer's result for it. -/

namespace Cert.KernelIdeal.Entry

open Idealize.ShloMosaic Idealize.ShloMosaic.TcCoe Cert.KernelIdeal Cert.KernelIdeal.Gen

variable (m : (ℓ : Loc nD τ sig) → Buf (Elt Ideal) ℓ) (c : Dev nD)

/-- What point `n` leaves: its block holds the layer's rows, its state the layer's after them, its last rows those before the
    convolution. -/
structure Left (n : ℕ) (hn : n < cfg0.N) : Prop where
  block : ∀ (k : Fin 512) (j : Fin 256), (outsAt0 m c n hn).1 (ix3 0 k j) = Mamba.out (P m c) (X m c (n / 8)) (512 * (n % 8) + k) j
  carry : ∀ (k : Fin 64) (d : Fin 512), (outsAt0 m c n hn).2.1 (ix2 k d) = Mamba.h (P m c) (X m c (n / 8)) (512 * (n % 8) + 512) d k
  tail : ∀ (k : Fin 8) (d : Fin 512), (outsAt0 m c n hn).2.2 (ix2 ⟨512 + k.val, by omega⟩ d)
    = Mamba.pad (P m c) (X m c (n / 8)) (512 * (n % 8) + 512 + k.val - 5) d

/-- The first point of a sequence. -/
theorem left_first (hr : Rates m c) (t : Fin cfg0.N) (h0 : t.val % 8 = 0) : Left m c t.val t.isLt := by
  have W := windows m c hr t
  have e : 512 * (t.val % 8) = 0 := by omega
  rw [e] at W
  have h1 : ¬1 ≤ t.val % 8 := by omega
  constructor
  · intro k j
    rw [outsAt0_A m c t h0 h1, e]
    dsimp only
    apply Block.block_A
    exact W
  · intro k d
    rw [outsAt0_A m c t h0 h1, e]
    dsimp only
    apply Block.carry_A
    exact W
  · intro k d
    rw [outsAt0_A m c t h0 h1, e]
    dsimp only
    apply Block.tail_A
    exact W

/-- A later point, over what the point before left. -/
theorem left_later (hr : Rates m c) (t : Fin cfg0.N) (h0 : ¬t.val % 8 = 0)
    (L : Left m c (t.val - 1) (Nat.lt_of_le_of_lt (Nat.sub_le _ _) t.isLt)) : Left m c t.val t.isLt := by
  have W := windows m c hr t
  have h1 : 1 ≤ t.val % 8 := by omega
  have e1 : (t.val - 1) / 8 = t.val / 8 := by omega
  have e2 : 512 * ((t.val - 1) % 8) + 512 = 512 * (t.val % 8) := by omega
  have hh := L.carry
  have hd := L.tail
  rw [e1, e2] at hh
  rw [e1, e2] at hd
  have hd' : ∀ (k : Fin 8) (d : Fin 512), 5 ≤ k.val → (outsAt0 m c (t.val - 1) (Nat.lt_of_le_of_lt (Nat.sub_le _ _) t.isLt)).2.2 (ix2 ⟨512 + k.val, by omega⟩ d)
      = Mamba.pad (P m c) (X m c (t.val / 8)) (512 * (t.val % 8) + (k.val - 5)) d := by
    intro k d h5
    rw [hd k d, Nat.add_sub_assoc h5]
  constructor
  · intro k j
    rw [outsAt0_B m c t h0 h1]
    dsimp only
    apply Block.block_B
    exacts [W, hh, hd']
  · intro k d
    rw [outsAt0_B m c t h0 h1]
    dsimp only
    apply Block.carry_B
    exacts [W, hh, hd']
  · intro k d
    rw [outsAt0_B m c t h0 h1]
    dsimp only
    apply Block.tail_B
    exacts [W, hh, hd']

/-- Every point. -/
theorem left (hr : Rates m c) : ∀ (n : ℕ) (hn : n < cfg0.N), Left m c n hn
  | 0, hn => left_first m c hr ⟨0, hn⟩ rfl
  | n + 1, hn => by
    by_cases h0 : (n + 1) % 8 = 0
    · exact left_first m c hr ⟨n + 1, hn⟩ h0
    · exact left_later m c hr ⟨n + 1, hn⟩ h0 (left hr n (Nat.lt_of_succ_lt hn))

/-- The kernel's array, by index. -/
def filled : Vec Ideal S8x4096x256 .f32 := fun y => Mamba.out (P m c) (X m c (y 0).val) (y 1).val (y 2)

/-- The block of the array a point writes. -/
theorem idx16 : ∀ t : Fin cfg0.N, win0_16.index t = ![t.val / 8, t.val % 8, 0] := (by decide +kernel : ∀ t : Fin grid0.N, _)

/-- The array when the region ends. -/
theorem array (hr : Rates m c) : (dats m 0 c).arrAt 16 cfg0.N = filled m c := by
  refine (dats m 0 c).arrAt_eq_of_covers 16 _ (by decide +kernel) fun t hf y => ?_
  rw [after0_16]
  have B := (left m c hr t.val t.isLt).block
  have e := idx16 t
  obtain ⟨a, k, j, rfl⟩ : ∃ (a : Fin 1) (k : Fin 512) (j : Fin 256), y = ix3 a k j := ⟨y 0, y 1, y 2, by funext a; fin_cases a <;> rfl⟩
  obtain rfl : a = 0 := Subsingleton.elim _ _
  have ht := lt64 t
  have hx : (cfg0.win 16).xinj (cfg0.grid.coords t) (ix3 0 k j) = ix3 0 k j := by funext a; fin_cases a <;> rfl
  have he : filled m c (((cfg0.win 16).blk t).view.emb (ix3 0 k j))
      = filled m c (ix3 ⟨t.val / 8, by omega⟩ ⟨512 * (t.val % 8) + k.val, by omega⟩ j) := by blk_ext [e]
  rw [he]
  show (outsAt0 m c t.val t.isLt).1 ((cfg0.win 16).xinj (cfg0.grid.coords t) (ix3 0 k j)) = _
  rw [hx]
  exact B k j

end Cert.KernelIdeal.Entry

end
-- ==== Proof.KernelValue.lean ====
module

public import proofs.«01_k».proof.Proof.ArrayValue

@[expose] public section

set_option maxRecDepth 16384

noncomputable section

/-! The kernel's result: the host puts the array's rows back at their places and adds the two passes to the image. -/

namespace Cert.KernelIdeal.Entry

open Idealize.ShloMosaic Idealize.ShloMosaic.TcCoe Cert.KernelIdeal Cert.KernelIdeal.Gen

variable (m : (ℓ : Loc nD τ sig) → Buf (Elt Ideal) ℓ) (c : Dev nD)

/-- The host's last operations, from any contents `U` of the buffers. -/
theorem suffix (U : Valuation τ sig (Elt Ideal)) (x : Vec Ideal S4x64x64x256 .f32) (a : Vec Ideal S8x4096x256 .f32)
    (hx : U (Proc.devRef .tc main_arg0) = x) (ha : U (Proc.devRef .tc main_v22) = a) (b : Fin 4) (i k : Fin 64) (j : Fin 256) :
    StableHlo.after hostOps1 U (Proc.devRef .tc main_v29) (ix4 b i k j)
      = x (ix4 b i k j) + a (ix3 ⟨b.val, by omega⟩ ⟨64 * i.val + k.val, by omega⟩ j)
        + a (ix3 ⟨4 + b.val, by omega⟩ ⟨64 * k.val + i.val, by omega⟩ j) := by
  unfold hostOps1; after_reads_at
  have e1 : (⟨i.val * 64 + k.val, by omega⟩ : Fin 4096) = ⟨64 * i.val + k.val, by omega⟩ := Fin.ext (by dsimp only; omega)
  have e2 : (⟨k.val * 64 + i.val, by omega⟩ : Fin 4096) = ⟨64 * k.val + i.val, by omega⟩ := Fin.ext (by dsimp only; omega)
  rw [hx, ha, e1, e2]

/-- The result as the lines after the region leave it. -/
theorem after_region (hr : Rates m c) (b : Fin 4) (i k : Fin 64) (j : Fin 256) :
    Pipeline.afterTail₀ cfgs (dats m) 0 (V0 m) [hostOps1] c main_v29 (ix4 b i k j)
      = Mamba.result (P m c) (m ((c : Thread nD τ).loc main_arg0)) b i k j := by
  unfold Pipeline.afterTail₀
  rw [List.flatten_cons, List.flatten_nil, List.append_nil]
  have h0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have h1 : Pipeline.withArrays (cfgs 0).spec c (V0 m c) (fun w => (dats m 0 c).arrAt w (cfgs 0).N) (Proc.devRef .tc main_v22)
      = filled m c :=
    (Pipeline.withArrays_arr spec0 (by exact (by decide +kernel : Function.Injective (Pipeline.arrRef spec0))) c (V0 m c) _ 16).trans (array m c hr)
  exact suffix _ _ _ h0 h1 b i k j

/-- The layer's result, by index. -/
def value : Vec Ideal S4x64x64x256 .f32 := fun y => Mamba.result (P m c) (m ((c : Thread nD τ).loc main_arg0)) (y 0) (y 1) (y 2) (y 3)

/-- The whole result array. -/
theorem after_region_eq (hr : Rates m c) : Pipeline.afterTail₀ cfgs (dats m) 0 (V0 m) [hostOps1] c main_v29 = value m c := by
  funext y
  obtain ⟨b, i, k, j, rfl⟩ : ∃ (b : Fin 4) (i k : Fin 64) (j : Fin 256), y = ix4 b i k j :=
    ⟨y 0, y 1, y 2, y 3, by funext a; fin_cases a <;> rfl⟩
  exact after_region m c hr b i k j

/-- THE KERNEL'S RUN: every execution ends with the result at the layer's. -/
theorem run (ρ : Dev nD → PrngReg) (hr : ∀ c, Rates m c) :
    θ_run defs (onTc (τ := τ) (main (F := Ideal))) ⟨m, fun _ => 0, ρ⟩ fun r => ∀ c : Dev nD,
      r.2.mem ((c : Thread nD τ).loc main_v29) = value m c :=
  (θ_run defs _ _).mono (fun _ h c => ((h c).2 main_v29 (Pipeline.mem_restRefs_of main_v29 (by decide) (by decide))).trans (after_region_eq m c (hr c))) (run_main m ρ)

end Cert.KernelIdeal.Entry

end
-- ==== Proof.RefRun.lean ====
/- The reference's run, stated over one trip of its scan (adapted from the generated text for this program): a valuation that holds a
   state steps to one that holds `step` of it, what @main leaves before the loop holds `init`, so the
   result is a function of `step` iterated 4096 times from `init`. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v89_8) = s.main_v89_8
  f_9 : V0 (Proc.devRef .tc main_v89_9) = s.main_v89_9
  f_0 : V0 (Proc.devRef .tc main_v89_0) = s.main_v89_0
  f_1 : V0 (Proc.devRef .tc main_v89_1) = s.main_v89_1
  f_2 : V0 (Proc.devRef .tc main_v89_2) = s.main_v89_2
  f_3 : V0 (Proc.devRef .tc main_v89_3) = s.main_v89_3
  f_4 : V0 (Proc.devRef .tc main_v89_4) = s.main_v89_4
  f_5 : V0 (Proc.devRef .tc main_v89_5) = s.main_v89_5
  f_6 : V0 (Proc.devRef .tc main_v89_6) = s.main_v89_6
  n_7 : V0 (Proc.devRef .tc main_v89_7) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x8x512 (V0 (Proc.devRef .tc main_v89_0)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x512_S1x8x512 : (Proc.devRef .tc main_while0b_call2_v0 : DevRef τ sig).ty.Contents (Elt F)) = Cert.ReferenceIdeal.Step.b2 j s := by
  unfold Cert.ReferenceIdeal.Step.b2
  rw [← al_0 h, ← al_1 h, h.f_0, h.n_7]
  try rfl
set_option maxRecDepth 8192 in
theorem al_3 (h : Holds V0 s j) : (res_main_while0b_v123 V0 : (Proc.devRef .tc main_while0b_v123 : DevRef τ sig).ty.Contents (Elt F)) = Cert.ReferenceIdeal.Step.b3 j s := by
  unfold res_main_while0b_v123 Cert.ReferenceIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call3_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x8x512 (V0 (Proc.devRef .tc main_v89_1)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x512_S1x8x512 : (Proc.devRef .tc main_while0b_call3_v0 : DevRef τ sig).ty.Contents (Elt F)) = Cert.ReferenceIdeal.Step.b6 j s := by
  unfold Cert.ReferenceIdeal.Step.b6
  rw [← al_4 h, ← al_5 h, h.f_1, h.n_7]
  try rfl
set_option maxRecDepth 8192 in
theorem al_7 (h : Holds V0 s j) : (res_main_while0b_v124 V0 : (Proc.devRef .tc main_while0b_v124 : DevRef τ sig).ty.Contents (Elt F)) = Cert.ReferenceIdeal.Step.b7 j s := by
  unfold res_main_while0b_v124 Cert.ReferenceIdeal.Step.b7
  rw [← al_6 h]
  try rfl
set_option maxRecDepth 8192 in
theorem al_8 (h : Holds V0 s j) : (constantI S_ 32 0#32 : (Proc.devRef .tc main_while0b_call4_c : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call4_c_0 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x8x64 (V0 (Proc.devRef .tc main_v89_2)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64 : (Proc.devRef .tc main_while0b_call4_v0 : DevRef τ sig).ty.Contents (Elt F)) = Cert.ReferenceIdeal.Step.b10 j s := by
  unfold Cert.ReferenceIdeal.Step.b10
  rw [← al_8 h, ← al_9 h, h.f_2, h.n_7]
  try rfl
set_option maxRecDepth 8192 in
theorem al_11 (h : Holds V0 s j) : (shapeCast S8x64 (Host.dynamicSlice S1x8x64 (V0 (Proc.devRef .tc main_v89_2)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64 : (Proc.devRef .tc main_while0b_v125 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call5_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call5_c_0 : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S1x8x64 (V0 (Proc.devRef .tc main_v89_3)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64 : (Proc.devRef .tc main_while0b_call5_v0 : DevRef τ sig).ty.Contents (Elt F)) = Cert.ReferenceIdeal.Step.b14 j s := by
  unfold Cert.ReferenceIdeal.Step.b14
  rw [← al_12 h, ← al_13 h, h.f_3, h.n_7]
  try rfl
set_option maxRecDepth 8192 in
theorem al_15 (h : Holds V0 s j) : (shapeCast S8x64 (Host.dynamicSlice S1x8x64 (V0 (Proc.devRef .tc main_v89_3)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64 : (Proc.devRef .tc main_while0b_v126 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (constantI S_ 32 0#32 : (Proc.devRef .tc main_while0b_call6_c : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call6_c_0 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x8x512 (V0 (Proc.devRef .tc main_v89_4)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x512_S1x8x512 : (Proc.devRef .tc main_while0b_call6_v0 : DevRef τ sig).ty.Contents (Elt F)) = Cert.ReferenceIdeal.Step.b18 j s := by
  unfold Cert.ReferenceIdeal.Step.b18
  rw [← al_16 h, ← al_17 h, h.f_4, h.n_7]
  try rfl
set_option maxRecDepth 8192 in
theorem al_19 (h : Holds V0 s j) : (res_main_while0b_v127 V0 : (Proc.devRef .tc main_while0b_v127 : DevRef τ sig).ty.Contents (Elt F)) = Cert.ReferenceIdeal.Step.b19 j s := by
  unfold res_main_while0b_v127 Cert.ReferenceIdeal.Step.b19
  rw [← al_18 h]
  try rfl
set_option maxRecDepth 8192 in
theorem al_20 (h : Holds V0 s j) : (broadcastInDim S8x512x1 ![0, 1] bcast_S8x512_S8x512x1_0_1 (res_main_while0b_v124 V0) : (Proc.devRef .tc main_while0b_v128 : DevRef τ sig).ty.Contents (Elt F)) = Cert.ReferenceIdeal.Step.b20 j s := by
  unfold Cert.ReferenceIdeal.Step.b20
  rw [← al_7 h]
  try rfl
set_option maxRecDepth 8192 in
theorem al_21 (h : Holds V0 s j) : (broadcastInDim S1x512x64 ![1, 2] bcast_S512x64_S1x512x64_1_2 (V0 (Proc.devRef .tc main_v89_5)) : (Proc.devRef .tc main_while0b_v129 : DevRef τ sig).ty.Contents (Elt F)) = Cert.ReferenceIdeal.Step.b21 j s := by
  unfold Cert.ReferenceIdeal.Step.b21
  rw [h.f_5]
  try rfl
set_option maxRecDepth 8192 in
theorem al_22 (h : Holds V0 s j) : (broadcastInDim S8x512x64 ![0, 1, 2] bcast_S8x512x1_S8x512x64_0_1_2 (broadcastInDim S8x512x1 ![0, 1] bcast_S8x512_S8x512x1_0_1 (res_main_while0b_v124 V0)) : (Proc.devRef .tc main_while0b_v130 : DevRef τ sig).ty.Contents (Elt F)) = Cert.ReferenceIdeal.Step.b22 j s := by
  unfold Cert.ReferenceIdeal.Step.b22
  rw [← al_20 h]
  try rfl
set_option maxRecDepth 8192 in
theorem al_23 (h : Holds V0 s j) : (broadcastInDim S8x512x64 ![0, 1, 2] bcast_S1x512x64_S8x512x64_0_1_2 (broadcastInDim S1x512x64 ![1, 2] bcast_S512x64_S1x512x64_1_2 (V0 (Proc.devRef .tc main_v89_5))) : (Proc.devRef .tc main_while0b_v131 : DevRef τ sig).ty.Contents (Elt F)) = Cert.ReferenceIdeal.Step.b23 j s := by
  unfold Cert.ReferenceIdeal.Step.b23
  rw [← al_21 h]
  try rfl
set_option maxRecDepth 8192 in
theorem al_24 (h : Holds V0 s j) : (mulf (broadcastInDim S8x512x64 ![0, 1, 2] bcast_S8x512x1_S8x512x64_0_1_2 (broadcastInDim S8x512x1 ![0, 1] bcast_S8x512_S8x512x1_0_1 (res_main_while0b_v124 V0))) (broadcastInDim S8x512x64 ![0, 1, 2] bcast_S1x512x64_S8x512x64_0_1_2 (broadcastInDim S1x512x64 ![1, 2] bcast_S512x64_S1x512x64_1_2 (V0 (Proc.devRef .tc main_v89_5)))) : (Proc.devRef .tc main_while0b_v132 : DevRef τ sig).ty.Contents (Elt F)) = Cert.ReferenceIdeal.Step.b24 j s := by
  unfold Cert.ReferenceIdeal.Step.b24
  rw [← al_22 h, ← al_23 h]
  try rfl
set_option maxRecDepth 8192 in
theorem al_25 (h : Holds V0 s j) : (Host.exp (mulf (broadcastInDim S8x512x64 ![0, 1, 2] bcast_S8x512x1_S8x512x64_0_1_2 (broadcastInDim S8x512x1 ![0, 1] bcast_S8x512_S8x512x1_0_1 (res_main_while0b_v124 V0))) (broadcastInDim S8x512x64 ![0, 1, 2] bcast_S1x512x64_S8x512x64_0_1_2 (broadcastInDim S1x512x64 ![1, 2] bcast_S512x64_S1x512x64_1_2 (V0 (Proc.devRef .tc main_v89_5))))) : (Proc.devRef .tc main_while0b_v133 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (mulf (Host.exp (mulf (broadcastInDim S8x512x64 ![0, 1, 2] bcast_S8x512x1_S8x512x64_0_1_2 (broadcastInDim S8x512x1 ![0, 1] bcast_S8x512_S8x512x1_0_1 (res_main_while0b_v124 V0))) (broadcastInDim S8x512x64 ![0, 1, 2] bcast_S1x512x64_S8x512x64_0_1_2 (broadcastInDim S1x512x64 ![1, 2] bcast_S512x64_S1x512x64_1_2 (V0 (Proc.devRef .tc main_v89_5)))))) (V0 (Proc.devRef .tc main_v89_8)) : (Proc.devRef .tc main_while0b_v134 : DevRef τ sig).ty.Contents (Elt F)) = Cert.ReferenceIdeal.Step.b26 j s := by
  unfold Cert.ReferenceIdeal.Step.b26
  rw [← al_25 h, h.f_8]
  try rfl
set_option maxRecDepth 8192 in
theorem al_27 (h : Holds V0 s j) : (mulf (res_main_while0b_v124 V0) (res_main_while0b_v123 V0) : (Proc.devRef .tc main_while0b_v135 : DevRef τ sig).ty.Contents (Elt F)) = Cert.ReferenceIdeal.Step.b27 j s := by
  unfold Cert.ReferenceIdeal.Step.b27
  rw [← al_7 h, ← al_3 h]
  try rfl
set_option maxRecDepth 8192 in
theorem al_28 (h : Holds V0 s j) : (broadcastInDim S8x512x1 ![0, 1] bcast_S8x512_S8x512x1_0_1 (mulf (res_main_while0b_v124 V0) (res_main_while0b_v123 V0)) : (Proc.devRef .tc main_while0b_v136 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (broadcastInDim S8x1x64 ![0, 2] bcast_S8x64_S8x1x64_0_2 (shapeCast S8x64 (Host.dynamicSlice S1x8x64 (V0 (Proc.devRef .tc main_v89_2)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64) : (Proc.devRef .tc main_while0b_v137 : DevRef τ sig).ty.Contents (Elt F)) = Cert.ReferenceIdeal.Step.b29 j s := by
  unfold Cert.ReferenceIdeal.Step.b29
  rw [← al_11 h]
  try rfl
set_option maxRecDepth 8192 in
theorem al_30 (h : Holds V0 s j) : (broadcastInDim S8x512x64 ![0, 1, 2] bcast_S8x512x1_S8x512x64_0_1_2 (broadcastInDim S8x512x1 ![0, 1] bcast_S8x512_S8x512x1_0_1 (mulf (res_main_while0b_v124 V0) (res_main_while0b_v123 V0))) : (Proc.devRef .tc main_while0b_v138 : DevRef τ sig).ty.Contents (Elt F)) = Cert.ReferenceIdeal.Step.b30 j s := by
  unfold Cert.ReferenceIdeal.Step.b30
  rw [← al_28 h]
  try rfl
set_option maxRecDepth 8192 in
theorem al_31 (h : Holds V0 s j) : (broadcastInDim S8x512x64 ![0, 1, 2] bcast_S8x1x64_S8x512x64_0_1_2 (broadcastInDim S8x1x64 ![0, 2] bcast_S8x64_S8x1x64_0_2 (shapeCast S8x64 (Host.dynamicSlice S1x8x64 (V0 (Proc.devRef .tc main_v89_2)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64)) : (Proc.devRef .tc main_while0b_v139 : DevRef τ sig).ty.Contents (Elt F)) = Cert.ReferenceIdeal.Step.b31 j s := by
  unfold Cert.ReferenceIdeal.Step.b31
  rw [← al_29 h]
  try rfl
set_option maxRecDepth 8192 in
theorem al_32 (h : Holds V0 s j) : (mulf (broadcastInDim S8x512x64 ![0, 1, 2] bcast_S8x512x1_S8x512x64_0_1_2 (broadcastInDim S8x512x1 ![0, 1] bcast_S8x512_S8x512x1_0_1 (mulf (res_main_while0b_v124 V0) (res_main_while0b_v123 V0)))) (broadcastInDim S8x512x64 ![0, 1, 2] bcast_S8x1x64_S8x512x64_0_1_2 (broadcastInDim S8x1x64 ![0, 2] bcast_S8x64_S8x1x64_0_2 (shapeCast S8x64 (Host.dynamicSlice S1x8x64 (V0 (Proc.devRef .tc main_v89_2)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64))) : (Proc.devRef .tc main_while0b_v140 : DevRef τ sig).ty.Contents (Elt F)) = Cert.ReferenceIdeal.Step.b32 j s := by
  unfold Cert.ReferenceIdeal.Step.b32
  rw [← al_30 h, ← al_31 h]
  try rfl
set_option maxRecDepth 8192 in
theorem al_33 (h : Holds V0 s j) : (res_main_while0b_v141 V0 : (Proc.devRef .tc main_while0b_v141 : DevRef τ sig).ty.Contents (Elt F)) = Cert.ReferenceIdeal.Step.b33 j s := by
  unfold res_main_while0b_v141 Cert.ReferenceIdeal.Step.b33
  rw [← al_26 h, ← al_32 h]
  try rfl
set_option maxRecDepth 8192 in
theorem al_34 (h : Holds V0 s j) : (Host.dotGeneral dot_S8x512x64_S8x64_S8x512_2_1_1_n_0_0 none (res_main_while0b_v141 V0) (shapeCast S8x64 (Host.dynamicSlice S1x8x64 (V0 (Proc.devRef .tc main_v89_3)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64) : (Proc.devRef .tc main_while0b_v142 : DevRef τ sig).ty.Contents (Elt F)) = Cert.ReferenceIdeal.Step.b34 j s := by
  unfold Cert.ReferenceIdeal.Step.b34
  rw [← al_33 h, ← al_15 h]
  try rfl
set_option maxRecDepth 8192 in
theorem al_35 (h : Holds V0 s j) : (broadcastInDim S1x512 ![1] bcast_S512_S1x512_1 (V0 (Proc.devRef .tc main_v89_6)) : (Proc.devRef .tc main_while0b_v143 : DevRef τ sig).ty.Contents (Elt F)) = Cert.ReferenceIdeal.Step.b35 j s := by
  unfold Cert.ReferenceIdeal.Step.b35
  rw [h.f_6]
  try rfl
set_option maxRecDepth 8192 in
theorem al_36 (h : Holds V0 s j) : (broadcastInDim S8x512 ![0, 1] bcast_S1x512_S8x512_0_1 (broadcastInDim S1x512 ![1] bcast_S512_S1x512_1 (V0 (Proc.devRef .tc main_v89_6))) : (Proc.devRef .tc main_while0b_v144 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (mulf (res_main_while0b_v123 V0) (broadcastInDim S8x512 ![0, 1] bcast_S1x512_S8x512_0_1 (broadcastInDim S1x512 ![1] bcast_S512_S1x512_1 (V0 (Proc.devRef .tc main_v89_6)))) : (Proc.devRef .tc main_while0b_v145 : DevRef τ sig).ty.Contents (Elt F)) = Cert.ReferenceIdeal.Step.b37 j s := by
  unfold Cert.ReferenceIdeal.Step.b37
  rw [← al_3 h, ← al_36 h]
  try rfl
set_option maxRecDepth 8192 in
theorem al_38 (h : Holds V0 s j) : (addf (Host.dotGeneral dot_S8x512x64_S8x64_S8x512_2_1_1_n_0_0 none (res_main_while0b_v141 V0) (shapeCast S8x64 (Host.dynamicSlice S1x8x64 (V0 (Proc.devRef .tc main_v89_3)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64)) (mulf (res_main_while0b_v123 V0) (broadcastInDim S8x512 ![0, 1] bcast_S1x512_S8x512_0_1 (broadcastInDim S1x512 ![1] bcast_S512_S1x512_1 (V0 (Proc.devRef .tc main_v89_6))))) : (Proc.devRef .tc main_while0b_v146 : DevRef τ sig).ty.Contents (Elt F)) = Cert.ReferenceIdeal.Step.b38 j s := by
  unfold Cert.ReferenceIdeal.Step.b38
  rw [← al_34 h, ← al_37 h]
  try rfl
set_option maxRecDepth 8192 in
theorem al_39 (h : Holds V0 s j) : (Host.negf (res_main_while0b_v127 V0) : (Proc.devRef .tc main_while0b_v147 : DevRef τ sig).ty.Contents (Elt F)) = Cert.ReferenceIdeal.Step.b39 j s := by
  unfold Cert.ReferenceIdeal.Step.b39
  rw [← al_19 h]
  try rfl
set_option maxRecDepth 8192 in
theorem al_40 (h : Holds V0 s j) : (Host.exp (Host.negf (res_main_while0b_v127 V0)) : (Proc.devRef .tc main_while0b_v148 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (constant S_ .f32 0x3F800000#32 : (Proc.devRef .tc main_while0b_cst_24 : DevRef τ sig).ty.Contents (Elt F)) = Cert.ReferenceIdeal.Step.b41 j s := by
  unfold Cert.ReferenceIdeal.Step.b41
  rfl
set_option maxRecDepth 8192 in
theorem al_42 (h : Holds V0 s j) : (broadcastInDim S8x512 ![] bcast_S_S8x512 (constant S_ .f32 0x3F800000#32) : (Proc.devRef .tc main_while0b_v149 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (addf (broadcastInDim S8x512 ![] bcast_S_S8x512 (constant S_ .f32 0x3F800000#32)) (Host.exp (Host.negf (res_main_while0b_v127 V0))) : (Proc.devRef .tc main_while0b_v150 : DevRef τ sig).ty.Contents (Elt F)) = Cert.ReferenceIdeal.Step.b43 j s := by
  unfold Cert.ReferenceIdeal.Step.b43
  rw [← al_42 h, ← al_40 h]
  try rfl
set_option maxRecDepth 8192 in
theorem al_44 (h : Holds V0 s j) : (constant S_ .f32 0x3F800000#32 : (Proc.devRef .tc main_while0b_cst_25 : DevRef τ sig).ty.Contents (Elt F)) = Cert.ReferenceIdeal.Step.b44 j s := by
  unfold Cert.ReferenceIdeal.Step.b44
  rfl
set_option maxRecDepth 8192 in
theorem al_45 (h : Holds V0 s j) : (broadcastInDim S8x512 ![] bcast_S_S8x512 (constant S_ .f32 0x3F800000#32) : (Proc.devRef .tc main_while0b_v151 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v127 V0)))) : (Proc.devRef .tc main_while0b_v152 : DevRef τ sig).ty.Contents (Elt F)) = Cert.ReferenceIdeal.Step.b46 j s := by
  unfold Cert.ReferenceIdeal.Step.b46
  rw [← al_45 h, ← al_43 h]
  try rfl
set_option maxRecDepth 8192 in
theorem al_47 (h : Holds V0 s j) : (mulf (res_main_while0b_v127 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v127 V0))))) : (Proc.devRef .tc main_while0b_v153 : DevRef τ sig).ty.Contents (Elt F)) = Cert.ReferenceIdeal.Step.b47 j s := by
  unfold Cert.ReferenceIdeal.Step.b47
  rw [← al_19 h, ← al_46 h]
  try rfl
set_option maxRecDepth 8192 in
theorem al_48 (h : Holds V0 s j) : (mulf (addf (Host.dotGeneral dot_S8x512x64_S8x64_S8x512_2_1_1_n_0_0 none (res_main_while0b_v141 V0) (shapeCast S8x64 (Host.dynamicSlice S1x8x64 (V0 (Proc.devRef .tc main_v89_3)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64)) (mulf (res_main_while0b_v123 V0) (broadcastInDim S8x512 ![0, 1] bcast_S1x512_S8x512_0_1 (broadcastInDim S1x512 ![1] bcast_S512_S1x512_1 (V0 (Proc.devRef .tc main_v89_6)))))) (mulf (res_main_while0b_v127 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v127 V0)))))) : (Proc.devRef .tc main_while0b_v154 : DevRef τ sig).ty.Contents (Elt F)) = Cert.ReferenceIdeal.Step.b48 j s := by
  unfold Cert.ReferenceIdeal.Step.b48
  rw [← al_38 h, ← al_47 h]
  try rfl
set_option maxRecDepth 8192 in
theorem al_49 (h : Holds V0 s j) : (broadcastInDim S1x8x512 ![1, 2] bcast_S8x512_S1x8x512_1_2 (mulf (addf (Host.dotGeneral dot_S8x512x64_S8x64_S8x512_2_1_1_n_0_0 none (res_main_while0b_v141 V0) (shapeCast S8x64 (Host.dynamicSlice S1x8x64 (V0 (Proc.devRef .tc main_v89_3)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64)) (mulf (res_main_while0b_v123 V0) (broadcastInDim S8x512 ![0, 1] bcast_S1x512_S8x512_0_1 (broadcastInDim S1x512 ![1] bcast_S512_S1x512_1 (V0 (Proc.devRef .tc main_v89_6)))))) (mulf (res_main_while0b_v127 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v127 V0))))))) : (Proc.devRef .tc main_while0b_call7_v0 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (constantI S_ 32 0#32 : (Proc.devRef .tc main_while0b_call7_c : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call7_c_0 : DevRef τ sig).ty.Contents (Elt F)) = Cert.ReferenceIdeal.Step.b51 j s := by
  unfold Cert.ReferenceIdeal.Step.b51
  rfl
set_option maxRecDepth 8192 in
theorem al_52 (h : Holds V0 s j) : (Host.dynamicUpdateSlice (V0 (Proc.devRef .tc main_v89_9)) (broadcastInDim S1x8x512 ![1, 2] bcast_S8x512_S1x8x512_1_2 (mulf (addf (Host.dotGeneral dot_S8x512x64_S8x64_S8x512_2_1_1_n_0_0 none (res_main_while0b_v141 V0) (shapeCast S8x64 (Host.dynamicSlice S1x8x64 (V0 (Proc.devRef .tc main_v89_3)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64)) (mulf (res_main_while0b_v123 V0) (broadcastInDim S8x512 ![0, 1] bcast_S1x512_S8x512_0_1 (broadcastInDim S1x512 ![1] bcast_S512_S1x512_1 (V0 (Proc.devRef .tc main_v89_6)))))) (mulf (res_main_while0b_v127 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v127 V0)))))))) (fun k => (((![V0 (Proc.devRef .tc main_v89_7), constantI S_ 32 0#32, constantI S_ 32 0#32] : Fin 3 → (⟨S_, .i32⟩ : BufTy).Contents (Elt F))) k (Shape.Idx.first h_S_)).toInt) updateFits_S4096x8x512_S1x8x512 : (Proc.devRef .tc main_while0b_v155 : DevRef τ sig).ty.Contents (Elt F)) = Cert.ReferenceIdeal.Step.b52 j s := by
  unfold Cert.ReferenceIdeal.Step.b52
  rw [← al_49 h, ← al_50 h, ← al_51 h, h.f_9, h.n_7]
  try rfl

/-! One trip's step of the carried values is `step`, field by field; a counter steps to the next number. -/

theorem step_8 (h : Holds V0 s j) : step_main_v89_8 V0 = (step j s).main_v89_8 := by
  unfold step_main_v89_8 Cert.ReferenceIdeal.Step.step
  show id (res_main_while0b_v141 V0) = _
  rw [al_33 h]
  try rfl
/-- A trip leaves the next state's rows. -/
theorem step_9 (h : Holds V0 s j) : step_main_v89_9 V0 = (step j s).main_v89_9 := by
  unfold step_main_v89_9 Cert.ReferenceIdeal.Step.step
  show id (Host.dynamicUpdateSlice (V0 (Proc.devRef .tc main_v89_9)) (broadcastInDim S1x8x512 ![1, 2] bcast_S8x512_S1x8x512_1_2 (mulf (addf (Host.dotGeneral dot_S8x512x64_S8x64_S8x512_2_1_1_n_0_0 none (res_main_while0b_v141 V0) (shapeCast S8x64 (Host.dynamicSlice S1x8x64 (V0 (Proc.devRef .tc main_v89_3)) (fun k => (((![V0 (Proc.devRef .tc main_v89_7), constantI S_ 32 0#32, constantI S_ 32 0#32] : Fin 3 → (⟨S_, .i32⟩ : BufTy).Contents (Elt F))) k (Shape.Idx.first h_S_)).toInt) sliceFits_S4096x8x64_S1x8x64) shapeCasts_S1x8x64_S8x64)) (mulf (res_main_while0b_v123 V0) (broadcastInDim S8x512 ![0, 1] bcast_S1x512_S8x512_0_1 (broadcastInDim S1x512 ![1] bcast_S512_S1x512_1 (V0 (Proc.devRef .tc main_v89_6)))))) (mulf (res_main_while0b_v127 V0) (Host.divf (broadcastInDim S8x512 ![] bcast_S_S8x512 (constant S_ .f32 0x3F800000#32)) (addf (broadcastInDim S8x512 ![] bcast_S_S8x512 (constant S_ .f32 0x3F800000#32)) (Host.exp (Host.negf (res_main_while0b_v127 V0)))))))) (fun k => (((![V0 (Proc.devRef .tc main_v89_7), constantI S_ 32 0#32, constantI S_ 32 0#32] : Fin 3 → (⟨S_, .i32⟩ : BufTy).Contents (Elt F))) k (Shape.Idx.first h_S_)).toInt) updateFits_S4096x8x512_S1x8x512) = _
  exact al_52 h
/-- A trip counts up. -/
theorem step_7 (h : Holds V0 s j) : step_main_v89_7 V0 = constantI S_ 32 (BitVec.ofNat 32 (j + 1)) := by
  unfold step_main_v89_7
  rw [h.n_7]
  funext i
  show BitVec.ofNat 32 j + 1#32 = BitVec.ofNat 32 (j + 1)
  simp only [BitVec.ofNat_add]

set_option maxRecDepth 8192 in
theorem out_main_v122_holds (h : Holds V0 s j) {x_main_arg0 : (⟨S4x64x64x256, .f32⟩ : BufTy).Contents (Elt F)} (h_main_arg0 : V0 (Proc.devRef .tc main_arg0) = x_main_arg0) {x_main_arg3 : (⟨S256, .f32⟩ : BufTy).Contents (Elt F)} (h_main_arg3 : V0 (Proc.devRef .tc main_arg3) = x_main_arg3) {x_main_arg4 : (⟨S256, .f32⟩ : BufTy).Contents (Elt F)} (h_main_arg4 : V0 (Proc.devRef .tc main_arg4) = x_main_arg4) {x_main_arg13 : (⟨S256x512, .f32⟩ : BufTy).Contents (Elt F)} (h_main_arg13 : V0 (Proc.devRef .tc main_arg13) = x_main_arg13) : out_main_v122 V0 = Cert.ReferenceIdeal.Step.R_main_v122 s x_main_arg0 x_main_arg3 x_main_arg4 x_main_arg13 := by
  unfold out_main_v122 Cert.ReferenceIdeal.Step.R_main_v122
  rw [h.f_9, h_main_arg0, h_main_arg3, h_main_arg4, h_main_arg13]
  try rfl

/-- One trip keeps the valuation holding: `step` of the state, the same set-up values, the next number. -/
theorem holds_step (h : Holds V0 s j) : Holds (STEP V0) (step j s) (j + 1) where
  f_8 := (STEP_main_v89_8 V0).trans (step_8 h)
  f_9 := (STEP_main_v89_9 V0).trans (step_9 h)
  n_7 := (STEP_main_v89_7 V0).trans (step_7 h)
  f_0 := (STEP_main_v89_0 V0).trans h.f_0
  f_1 := (STEP_main_v89_1 V0).trans h.f_1
  f_2 := (STEP_main_v89_2 V0).trans h.f_2
  f_3 := (STEP_main_v89_3 V0).trans h.f_3
  f_4 := (STEP_main_v89_4 V0).trans h.f_4
  f_5 := (STEP_main_v89_5 V0).trans h.f_5
  f_6 := (STEP_main_v89_6 V0).trans h.f_6

/-- The state the first trip starts from, of the memory the run starts from. -/
abbrev initState (m : (ℓ : Loc nD τ sig) → Buf (Elt F) ℓ) (c : Dev nD) : State F :=
  init (m ((c.tc : Thread nD τ).loc main_arg12)) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

variable (m : (ℓ : Loc nD τ sig) → Buf (Elt F) ℓ) (c : Dev nD)

set_option maxRecDepth 65536 in
set_option maxHeartbeats 1100000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v122) = Cert.ReferenceIdeal.Step.R_main_v122 (it c 4096) (m ((c.tc : Thread nD τ).loc main_arg0)) (m ((c.tc : Thread nD τ).loc main_arg3)) (m ((c.tc : Thread nD τ).loc main_arg4)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    have hk := holds_iter m c (it c) (h0 c) (hs c) 4096
    ⟨(h c).1.trans (out_main_v122_holds hk (iter_main_arg0 m c 4096) (iter_main_arg3 m c 4096) (iter_main_arg4 m c 4096) (iter_main_arg13 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩) (Value.run m ρ)

end Cert.ReferenceIdeal.RefRun

end
-- ==== Proof.RefRows.lean ====
module

public import Idealize.ShloMosaic.Lib.KernelVsHost
public import proofs.«01_k».proof.Proof.Spec
public import proofs.«01_k».proof.Proof.Gen.ReferenceIdeal.Step
public import Idealize.ShloMosaic.Lib.StableHlo.ReadAt

@[expose] public section

set_option maxRecDepth 16384

noncomputable section

/-! What the reference computes before its scan: normalised rows, projections, convolution and step sizes, each the layer's. -/

namespace Cert.ReferenceIdeal.Rows

open Idealize.ShloMosaic Cert.ReferenceIdeal Cert.ReferenceIdeal.Gen Cert.ReferenceIdeal.Step

variable (a0 : Vec Ideal S4x64x64x256 .f32) (a1 a2 a3 a4 : Vec Ideal S256 .f32) (a5 : Vec Ideal S1024x256 .f32) (a6 : Vec Ideal S512x4 .f32)
    (a7 : Vec Ideal S512 .f32) (a8 : Vec Ideal S144x512 .f32) (a9 : Vec Ideal S512x16 .f32) (a10 : Vec Ideal S512 .f32)
    (a11 : Vec Ideal S512x64 .f32) (a12 : Vec Ideal S512 .f32) (a13 : Vec Ideal S256x512 .f32)

/-- The parameters, off the arguments. -/
abbrev par : Mamba.Weights := Mamba.params a1 a2 a3 a4 a5 a6 a7 a8 a9 a10 a11 a12 a13

/-- The normalised image. -/
theorem ln_image (b : Fin 4) (i k : Fin 64) (j : Fin 256) : (A_main_v23 a0 a1 a2 a5 a6 a7 a8 a9 a10 a11) (ix4 b i k j)
    = Mamba.lnRow (fun j => a0 (ix4 b i k j)) (fun j => a1 (ix1 j)) (fun j => a2 (ix1 j)) j := by
  pointwise [A_main_v0, A_main_v1, A_main_v3, A_main_v4, A_main_v5, A_main_v6, A_main_v7, A_main_v8, A_main_v10, A_main_v11, A_main_v12, A_main_v14, A_main_v15, A_main_v16, A_main_v17, A_main_v18, A_main_v19, A_main_v20, A_main_v21, A_main_v22, A_main_v23, K_main_v2, K_main_cst, K_main_cst_0, K_main_cst_1, K_main_v9, K_main_cst_2, K_main_v13, K_main_cst_3]
  rfl

/-- The normalised rows of the eight sequences. -/
theorem ln_rows (b : Fin 8) (l : Fin 4096) (j : Fin 256) : (A_main_v27 a0 a1 a2 a5 a6 a7 a8 a9 a10 a11) (ix3 b l j)
    = Mamba.lnRow (Mamba.seqs a0 b.val l.val) (fun j => a1 (ix1 j)) (fun j => a2 (ix1 j)) j := by
  pointwise [A_main_v27, A_main_v26, A_main_v25, A_main_v24]
  by_cases h : b.val < 4
  · rw [dif_pos h, ln_image]
    refine congrArg (fun v => Mamba.lnRow v _ _ j) (funext fun x => ?_)
    rw [← Mamba.seqs_host, dif_pos h]
  · rw [dif_neg h, ln_image]
    refine congrArg (fun v => Mamba.lnRow v _ _ j) (funext fun x => ?_)
    rw [← Mamba.seqs_host, dif_neg h]

/-- The projected rows. -/
theorem xz_rows (b : Fin 8) (l : Fin 4096) (e : Fin 1024) : (A_main_v28 a0 a1 a2 a5 a6 a7 a8 a9 a10 a11) (ix3 b l e)
    = Mamba.xz (par a1 a2 a3 a4 a5 a6 a7 a8 a9 a10 a11 a12 a13) (Mamba.seqs a0 b.val) l.val e := by
  pointwise [A_main_v28]
  exact Finset.sum_congr rfl fun d _ => congrArg (· * a5 (ix2 e d)) (ln_rows a0 a1 a2 a5 a6 a7 a8 a9 a10 a11 b l d)

/-- The left half, with three rows of zeros in front. -/
theorem pad_rows (b : Fin 8) (l : Fin 4099) (d : Fin 512) : (A_main_v31 a0 a1 a2 a5 a6 a7 a8 a9 a10 a11) (ix3 b l d)
    = Mamba.pad (par a1 a2 a3 a4 a5 a6 a7 a8 a9 a10 a11 a12 a13) (Mamba.seqs a0 b.val) l.val d := by
  pointwise [A_main_v31, A_main_v29, K_main_call0_v0, K_main_c]
  unfold Mamba.pad
  by_cases h : l.val < 3
  · rw [dif_neg (by omega), if_pos h]
    exact Idealize.ShloMosaic.sitofp_zero (φ := .f32)
  · rw [dif_pos (by omega), if_neg h]
    exact xz_rows a0 a1 a2 a3 a4 a5 a6 a7 a8 a9 a10 a11 a12 a13 b ⟨l.val - 3, by omega⟩ ⟨d.val, by omega⟩

/-- The rows before the activation. -/
theorem conv_rows (b : Fin 8) (l : Fin 4096) (d : Fin 512) : (A_main_v63 a0 a1 a2 a5 a6 a7 a8 a9 a10 a11) (ix3 b l d)
    = a6 (ix2 d 0) * Mamba.pad (par a1 a2 a3 a4 a5 a6 a7 a8 a9 a10 a11 a12 a13) (Mamba.seqs a0 b.val) l.val d + a6 (ix2 d 1) * Mamba.pad (par a1 a2 a3 a4 a5 a6 a7 a8 a9 a10 a11 a12 a13) (Mamba.seqs a0 b.val) (l.val + 1) d
      + a6 (ix2 d 2) * Mamba.pad (par a1 a2 a3 a4 a5 a6 a7 a8 a9 a10 a11 a12 a13) (Mamba.seqs a0 b.val) (l.val + 2) d + a6 (ix2 d 3) * Mamba.pad (par a1 a2 a3 a4 a5 a6 a7 a8 a9 a10 a11 a12 a13) (Mamba.seqs a0 b.val) (l.val + 3) d
      + a7 (ix1 d) := by
  pointwise [A_main_v32, A_main_v33, A_main_v34, A_main_v35, A_main_v36, A_main_v37, A_main_v39, A_main_v40, A_main_v41, A_main_v42, A_main_v43, A_main_v44, A_main_v45, A_main_v46, A_main_v47, A_main_v48, A_main_v49, A_main_v50, A_main_v51, A_main_v52, A_main_v53, A_main_v54, A_main_v55, A_main_v56, A_main_v57, A_main_v58, A_main_v59, A_main_v60, A_main_v61, A_main_v62, A_main_v63, K_main_v38, K_main_cst_4]
  have e (k : ℕ) (hk : k < 4) (hl : k + l.val < 4099) : A_main_v31 a0 a1 a2 a5 a6 a7 a8 a9 a10 a11 (ix3 b ⟨k + l.val, hl⟩ d)
      = Mamba.pad (par a1 a2 a3 a4 a5 a6 a7 a8 a9 a10 a11 a12 a13) (Mamba.seqs a0 b.val) (l.val + k) d :=
    (pad_rows a0 a1 a2 a3 a4 a5 a6 a7 a8 a9 a10 a11 a12 a13 b ⟨k + l.val, hl⟩ d).trans
      (congrArg (fun n => Mamba.pad _ (Mamba.seqs a0 b.val) n d) (Nat.add_comm k l.val))
  rw [pad_rows a0 a1 a2 a3 a4 a5 a6 a7 a8 a9 a10 a11 a12 a13, e 1 (by decide), e 2 (by decide), e 3 (by decide)]
  rw [mul_comm (a6 (ix2 d 0)), mul_comm (a6 (ix2 d 1)), mul_comm (a6 (ix2 d 2)), mul_comm (a6 (ix2 d 3))]

/-- The convolved rows. -/
theorem u_rows (b : Fin 8) (l : Fin 4096) (d : Fin 512) : (A_main_v70 a0 a1 a2 a5 a6 a7 a8 a9 a10 a11) (ix3 b l d)
    = Mamba.u (par a1 a2 a3 a4 a5 a6 a7 a8 a9 a10 a11 a12 a13) (Mamba.seqs a0 b.val) l.val d := by
  pointwise [A_main_v70, A_main_v69, A_main_v67, A_main_v65, A_main_v64, K_main_v66, K_main_cst_5, K_main_v68, K_main_cst_6]
  rw [conv_rows a0 a1 a2 a3 a4 a5 a6 a7 a8 a9 a10 a11 a12 a13]
  rfl

/-- Their products with the second projection. -/
theorem proj_rows (b : Fin 8) (l : Fin 4096) (e : Fin 144) : (A_main_v71 a0 a1 a2 a5 a6 a7 a8 a9 a10 a11) (ix3 b l e)
    = Mamba.proj (par a1 a2 a3 a4 a5 a6 a7 a8 a9 a10 a11 a12 a13) (Mamba.seqs a0 b.val) l.val e := by
  pointwise [A_main_v71]
  exact Finset.sum_congr rfl fun d _ => congrArg (· * a8 (ix2 e d)) (u_rows a0 a1 a2 a3 a4 a5 a6 a7 a8 a9 a10 a11 a12 a13 b l d)

/-- The step sizes. -/
theorem dt_rows (b : Fin 8) (l : Fin 4096) (d : Fin 512) : (A_main_v79 a0 a1 a2 a5 a6 a7 a8 a9 a10 a11) (ix3 b l d)
    = Mamba.dt (par a1 a2 a3 a4 a5 a6 a7 a8 a9 a10 a11 a12 a13) (Mamba.seqs a0 b.val) l.val d := by
  have hv : (A_main_v78 a0 a1 a2 a5 a6 a7 a8 a9 a10 a11) (ix3 b l d) = ∑ r : Fin 16, Mamba.proj (par a1 a2 a3 a4 a5 a6 a7 a8 a9 a10 a11 a12 a13) (Mamba.seqs a0 b.val) l.val ⟨r.val, by omega⟩ * a9 (ix2 d r) + a10 (ix1 d) := by
    pointwise [A_main_v78, A_main_v77, A_main_v76, A_main_v75, A_main_v72]
    exact congrArg (· + a10 (ix1 d)) (Finset.sum_congr rfl fun r _ => congrArg (· * a9 (ix2 d r)) (proj_rows a0 a1 a2 a3 a4 a5 a6 a7 a8 a9 a10 a11 a12 a13 b l _))
  pointwise [A_main_v79, A_main_call1_v11, A_main_call1_v10, A_main_call1_v9, A_main_call1_v8, A_main_call1_v7, A_main_call1_v6, A_main_call1_v4, A_main_call1_v3, A_main_call1_v1, K_main_call1_v0, K_main_call1_v2, K_main_call1_v5, K_main_call1_cst]
  rw [hv, if_neg (fun h => h rfl)]
  rfl

/-- The rates. -/
theorem rates (d : Fin 512) (n : Fin 64) : (A_main_v81 a0 a1 a2 a5 a6 a7 a8 a9 a10 a11) (ix2 d n) = -Ideal.exp (a11 (ix2 d n)) := by
  pointwise [A_main_v81, A_main_v80]

end Cert.ReferenceIdeal.Rows

end
-- ==== Proof.RefScan.lean ====
module

public import proofs.«01_k».proof.Proof.RefRows
public import Idealize.ShloMosaic.Lib.WordCmp
public import Idealize.ShloMosaic.Lib.DynamicIndex

@[expose] public section

set_option maxRecDepth 16384

noncomputable section

/-! One trip of the reference's scan: the rows it reads, the state and the row it leaves. -/

namespace Cert.ReferenceIdeal.Scan

open Idealize.ShloMosaic Cert.ReferenceIdeal Cert.ReferenceIdeal.Gen Cert.ReferenceIdeal.Step

/-- The start a trip's reads clamp: row `l`, from the first sequence and column. -/
theorem start_at (l : Fin 4096) (i : S_.Idx) (a : Fin 3) :
    (((![(constantI S_ 32 (BitVec.ofNat 32 l.val)), constantI S_ 32 0#32, constantI S_ 32 0#32] : Fin 3 → IVec S_ 32)) a i).toInt
      = ((![l.val, 0, 0] : Fin 3 → ℕ) a : ℤ) := by
  match a with
  | 0 => exact toInt_ofNat_of_lt (show l.val < 2 ^ 31 by omega)
  | 1 => rfl
  | 2 => rfl

/-- Row `l`, of 512 columns, fits. -/
theorem fits_wide (l : Fin 4096) : S4096x8x512.Slices ![l.val, 0, 0] S1x8x512 :=
  ⟨rfl, fun a => match a with
    | 0 => show l.val + 1 ≤ 4096 by omega
    | 1 => show 0 + 8 ≤ 8 by omega
    | 2 => show 0 + 512 ≤ 512 by omega⟩

/-- Row `l`, of 64 columns, fits. -/
theorem fits_narrow (l : Fin 4096) : S4096x8x64.Slices ![l.val, 0, 0] S1x8x64 :=
  ⟨rfl, fun a => match a with
    | 0 => show l.val + 1 ≤ 4096 by omega
    | 1 => show 0 + 8 ≤ 8 by omega
    | 2 => show 0 + 64 ≤ 64 by omega⟩

variable (l : Fin 4096) (s : State Ideal) (b : Fin 8) (d : Fin 512) (n : Fin 64)

/-- The convolved row read. -/
theorem row_u : b3 l.val s (ix2 b d) = s.main_v89_0 (ix3 l b d) := by
  unfold b3 b2 b0 b1
  rw [Idealize.ShloMosaic.WordCmp.dynamicSlice_eq_extract _ _ _ _ _ (fits_wide l) (start_at l _)]
  pointwise

/-- The step sizes read. -/
theorem row_dt : b7 l.val s (ix2 b d) = s.main_v89_1 (ix3 l b d) := by
  unfold b7 b6 b4 b5
  rw [Idealize.ShloMosaic.WordCmp.dynamicSlice_eq_extract _ _ _ _ _ (fits_wide l) (start_at l _)]
  pointwise

/-- The input factors read. -/
theorem row_B : b11 l.val s (ix2 b n) = s.main_v89_2 (ix3 l b n) := by
  unfold b11 b10 b8 b9
  rw [Idealize.ShloMosaic.WordCmp.dynamicSlice_eq_extract _ _ _ _ _ (fits_narrow l) (start_at l _)]
  pointwise

/-- The output factors read. -/
theorem row_C : b15 l.val s (ix2 b n) = s.main_v89_3 (ix3 l b n) := by
  unfold b15 b14 b12 b13
  rw [Idealize.ShloMosaic.WordCmp.dynamicSlice_eq_extract _ _ _ _ _ (fits_narrow l) (start_at l _)]
  pointwise

/-- The gate read. -/
theorem row_z : b19 l.val s (ix2 b d) = s.main_v89_4 (ix3 l b d) := by
  unfold b19 b18 b16 b17
  rw [Idealize.ShloMosaic.WordCmp.dynamicSlice_eq_extract _ _ _ _ _ (fits_wide l) (start_at l _)]
  pointwise

/-- The state a trip leaves. -/
theorem state_next : b33 l.val s (ix3 b d n)
    = Ideal.exp (s.main_v89_1 (ix3 l b d) * s.main_v89_5 (ix2 d n)) * s.main_v89_8 (ix3 b d n)
      + s.main_v89_1 (ix3 l b d) * s.main_v89_0 (ix3 l b d) * s.main_v89_2 (ix3 l b n) := by
  rw [← row_u, ← row_dt, ← row_B]
  pointwise [b33, b32, b31, b30, b29, b28, b27, b26, b25, b24, b23, b22, b21, b20]

/-- The row a trip computes. -/
theorem row_next : b48 l.val s (ix2 b d)
    = (∑ n : Fin 64, b33 l.val s (ix3 b d n) * s.main_v89_3 (ix3 l b n) + s.main_v89_0 (ix3 l b d) * s.main_v89_6 (ix1 d))
      * Mamba.silu (s.main_v89_4 (ix3 l b d)) := by
  rw [← row_z, ← row_u, Finset.sum_congr rfl fun n _ => congrArg (b33 l.val s (ix3 b d n) * ·) (row_C l s b n).symm]
  pointwise [b48, b47, b46, b45, b44, b43, b42, b41, b40, b39, b38, b37, b36, b35, b34]
  rfl

/-- The rows after a trip: its own written, the others kept. -/
theorem rows_next (l' : Fin 4096) : b52 l.val s (ix3 l' b d) = if l' = l then b48 l.val s (ix2 b d) else s.main_v89_9 (ix3 l' b d) := by
  unfold b52 b50 b51
  rw [Idealize.ShloMosaic.WordCmp.dynamicUpdateSlice_eq_update _ _ _ _ _ (fits_wide l) (start_at l _), updateSlice_apply]
  by_cases h : l' = l
  · subst h
    rw [if_pos rfl, dif_pos (fun a => match a with
      | 0 => (show l'.val ≤ l'.val ∧ l'.val < l'.val + 1 by omega)
      | 1 => (show 0 ≤ b.val ∧ b.val < 0 + 8 by omega)
      | 2 => (show 0 ≤ d.val ∧ d.val < 0 + 512 by omega))]
    pointwise [b49]
  · rw [if_neg h, dif_neg (fun g => h (Fin.ext (by have : l.val ≤ l'.val ∧ l'.val < l.val + 1 := g 0; omega)))]

end Cert.ReferenceIdeal.Scan

end
-- ==== Proof.RefValue.lean ====
module

public import proofs.«01_k».proof.Proof.RefScan

@[expose] public section

set_option maxRecDepth 16384

noncomputable section

/-! The reference's scan over all rows, and its result: the layer's. -/

namespace Cert.ReferenceIdeal.Result

open Idealize.ShloMosaic Cert.ReferenceIdeal Cert.ReferenceIdeal.Gen Cert.ReferenceIdeal.Step

variable (a0 : Vec Ideal S4x64x64x256 .f32) (a1 a2 a3 a4 : Vec Ideal S256 .f32) (a5 : Vec Ideal S1024x256 .f32) (a6 : Vec Ideal S512x4 .f32)
    (a7 : Vec Ideal S512 .f32) (a8 : Vec Ideal S144x512 .f32) (a9 : Vec Ideal S512x16 .f32) (a10 : Vec Ideal S512 .f32)
    (a11 : Vec Ideal S512x64 .f32) (a12 : Vec Ideal S512 .f32) (a13 : Vec Ideal S256x512 .f32)

/-- What the loop carries before trip `n`. -/
def scan : ℕ → State Ideal
  | 0 => init a12 a0 a1 a2 a5 a6 a7 a8 a9 a10 a11
  | n + 1 => step n (scan n)

/-- The rows a trip reads, as they were before the loop. -/
structure Rows (s : State Ideal) : Prop where
  u (l : Fin 4096) (b : Fin 8) (d : Fin 512) : s.main_v89_0 (ix3 l b d) = Mamba.u (Rows.par a1 a2 a3 a4 a5 a6 a7 a8 a9 a10 a11 a12 a13) (Mamba.seqs a0 b.val) l.val d
  dt (l : Fin 4096) (b : Fin 8) (d : Fin 512) : s.main_v89_1 (ix3 l b d) = Mamba.dt (Rows.par a1 a2 a3 a4 a5 a6 a7 a8 a9 a10 a11 a12 a13) (Mamba.seqs a0 b.val) l.val d
  B (l : Fin 4096) (b : Fin 8) (n : Fin 64) : s.main_v89_2 (ix3 l b n) = Mamba.proj (Rows.par a1 a2 a3 a4 a5 a6 a7 a8 a9 a10 a11 a12 a13) (Mamba.seqs a0 b.val) l.val ⟨16 + n.val, by omega⟩
  C (l : Fin 4096) (b : Fin 8) (n : Fin 64) : s.main_v89_3 (ix3 l b n) = Mamba.proj (Rows.par a1 a2 a3 a4 a5 a6 a7 a8 a9 a10 a11 a12 a13) (Mamba.seqs a0 b.val) l.val ⟨80 + n.val, by omega⟩
  z (l : Fin 4096) (b : Fin 8) (d : Fin 512) : s.main_v89_4 (ix3 l b d) = Mamba.xz (Rows.par a1 a2 a3 a4 a5 a6 a7 a8 a9 a10 a11 a12 a13) (Mamba.seqs a0 b.val) l.val ⟨512 + d.val, by omega⟩
  A (d : Fin 512) (n : Fin 64) : s.main_v89_5 (ix2 d n) = -Ideal.exp (a11 (ix2 d n))
  D (d : Fin 512) : s.main_v89_6 (ix1 d) = a12 (ix1 d)

/-- They are so at the start. -/
theorem rows_init : Rows a0 a1 a2 a3 a4 a5 a6 a7 a8 a9 a10 a11 a12 a13 (init a12 a0 a1 a2 a5 a6 a7 a8 a9 a10 a11) where
  u l b d := by
    pointwise [init, A_main_v83]
    exact Rows.u_rows a0 a1 a2 a3 a4 a5 a6 a7 a8 a9 a10 a11 a12 a13 b l d
  dt l b d := by
    pointwise [init, A_main_v84]
    exact Rows.dt_rows a0 a1 a2 a3 a4 a5 a6 a7 a8 a9 a10 a11 a12 a13 b l d
  B l b n := by
    pointwise [init, A_main_v85, A_main_v73]
    exact Rows.proj_rows a0 a1 a2 a3 a4 a5 a6 a7 a8 a9 a10 a11 a12 a13 b l _
  C l b n := by
    pointwise [init, A_main_v86, A_main_v74]
    exact Rows.proj_rows a0 a1 a2 a3 a4 a5 a6 a7 a8 a9 a10 a11 a12 a13 b l _
  z l b d := by
    pointwise [init, A_main_v87, A_main_v30]
    exact Rows.xz_rows a0 a1 a2 a3 a4 a5 a6 a7 a8 a9 a10 a11 a12 a13 b l _
  A d n := by
    unfold init
    exact Rows.rates a0 a1 a2 a5 a6 a7 a8 a9 a10 a11 d n
  D d := by unfold init; rfl

/-- They are kept. -/
theorem rows_scan (n : ℕ) : Rows a0 a1 a2 a3 a4 a5 a6 a7 a8 a9 a10 a11 a12 a13 (scan a0 a1 a2 a5 a6 a7 a8 a9 a10 a11 a12 n) := by
  induction n with
  | zero => exact rows_init a0 a1 a2 a3 a4 a5 a6 a7 a8 a9 a10 a11 a12 a13
  | succ n ih => exact ⟨ih.u, ih.dt, ih.B, ih.C, ih.z, ih.A, ih.D⟩

/-- The state after trip `l` is the recurrence's, if it was before. -/
theorem state_step (s : State Ideal) (hs : Rows a0 a1 a2 a3 a4 a5 a6 a7 a8 a9 a10 a11 a12 a13 s) (l : Fin 4096)
    (hh : ∀ b d n, s.main_v89_8 (ix3 b d n) = Mamba.h (Rows.par a1 a2 a3 a4 a5 a6 a7 a8 a9 a10 a11 a12 a13) (Mamba.seqs a0 b.val) l.val d n)
    (b : Fin 8) (d : Fin 512) (n : Fin 64) : b33 l.val s (ix3 b d n)
      = Mamba.h (Rows.par a1 a2 a3 a4 a5 a6 a7 a8 a9 a10 a11 a12 a13) (Mamba.seqs a0 b.val) (l.val + 1) d n := by
  rw [Scan.state_next, hs.dt, hs.A, hs.u, hs.B, hh, Mamba.h_succ]
  rfl

/-- The row trip `l` writes is the layer's. -/
theorem row_step (s : State Ideal) (hs : Rows a0 a1 a2 a3 a4 a5 a6 a7 a8 a9 a10 a11 a12 a13 s) (l : Fin 4096)
    (hh : ∀ b d n, s.main_v89_8 (ix3 b d n) = Mamba.h (Rows.par a1 a2 a3 a4 a5 a6 a7 a8 a9 a10 a11 a12 a13) (Mamba.seqs a0 b.val) l.val d n)
    (b : Fin 8) (d : Fin 512) : b48 l.val s (ix2 b d)
      = Mamba.gated (Rows.par a1 a2 a3 a4 a5 a6 a7 a8 a9 a10 a11 a12 a13) (Mamba.seqs a0 b.val) l.val d := by
  rw [Scan.row_next, hs.u, hs.D, hs.z,
    Finset.sum_congr rfl fun n _ => (congrArg₂ (· * ·) (state_step a0 a1 a2 a3 a4 a5 a6 a7 a8 a9 a10 a11 a12 a13 s hs l hh b d n) (hs.C l b n)).trans (mul_comm _ _)]
  rfl

/-- Before trip `n`: the recurrence's state, and the layer's rows up to `n`. -/
theorem invariant (n : ℕ) (hn : n ≤ 4096) :
    (∀ b d k, (scan a0 a1 a2 a5 a6 a7 a8 a9 a10 a11 a12 n).main_v89_8 (ix3 b d k) = Mamba.h (Rows.par a1 a2 a3 a4 a5 a6 a7 a8 a9 a10 a11 a12 a13) (Mamba.seqs a0 b.val) n d k)
    ∧ ∀ (l : Fin 4096) (b : Fin 8) (d : Fin 512), l.val < n → (scan a0 a1 a2 a5 a6 a7 a8 a9 a10 a11 a12 n).main_v89_9 (ix3 l b d)
      = Mamba.gated (Rows.par a1 a2 a3 a4 a5 a6 a7 a8 a9 a10 a11 a12 a13) (Mamba.seqs a0 b.val) l.val d := by
  induction n with
  | zero =>
    refine ⟨fun b d k => ?_, fun l b d h => absurd h (Nat.not_lt_zero _)⟩
    pointwise [scan, init, K_main_v82, K_main_cst_7]
    rfl
  | succ n ih =>
    have hs := rows_scan a0 a1 a2 a3 a4 a5 a6 a7 a8 a9 a10 a11 a12 a13 n
    obtain ⟨hh, hy⟩ := ih (by omega)
    refine ⟨fun b d k => state_step a0 a1 a2 a3 a4 a5 a6 a7 a8 a9 a10 a11 a12 a13 _ hs ⟨n, by omega⟩ hh b d k, fun l b d h => ?_⟩
    refine (Scan.rows_next ⟨n, by omega⟩ _ b d l).trans ?_
    by_cases e : l = ⟨n, by omega⟩
    · rw [if_pos e, e]
      exact row_step a0 a1 a2 a3 a4 a5 a6 a7 a8 a9 a10 a11 a12 a13 _ hs ⟨n, by omega⟩ hh b d
    · rw [if_neg e]
      exact hy l b d (by have : l.val ≠ n := fun g => e (Fin.ext g); omega)

/-- The result's entries, of the rows the loop leaves. -/
theorem result_rows (s : State Ideal) (b : Fin 4) (i k : Fin 64) (j : Fin 256) : R_main_v122 s a0 a3 a4 a13 (ix4 b i k j)
    = a0 (ix4 b i k j)
      + Mamba.lnRow (fun j => ∑ d, s.main_v89_9 (ix3 ⟨i.val * 64 + k.val, by omega⟩ ⟨b.val, by omega⟩ d) * a13 (ix2 j d)) (fun j => a3 (ix1 j)) (fun j => a4 (ix1 j)) j
      + Mamba.lnRow (fun j => ∑ d, s.main_v89_9 (ix3 ⟨k.val * 64 + i.val, by omega⟩ ⟨4 + b.val, by omega⟩ d) * a13 (ix2 j d)) (fun j => a3 (ix1 j)) (fun j => a4 (ix1 j)) j := by
  pointwise [R_main_v122]
  rfl

/-- The result's entries are the layer's. -/
theorem result_at (b : Fin 4) (i k : Fin 64) (j : Fin 256) :
    R_main_v122 (scan a0 a1 a2 a5 a6 a7 a8 a9 a10 a11 a12 4096) a0 a3 a4 a13 (ix4 b i k j)
      = Mamba.result (Mamba.params a1 a2 a3 a4 a5 a6 a7 a8 a9 a10 a11 a12 a13) a0 b i k j := by
  have hy (l : Fin 4096) (c : Fin 8) (d : Fin 512) :=
    (invariant a0 a1 a2 a3 a4 a5 a6 a7 a8 a9 a10 a11 a12 a13 4096 (le_refl _)).2 l c d l.isLt
  rw [result_rows]
  simp only [hy]
  rw [Nat.mul_comm i.val 64, Nat.mul_comm k.val 64]
  rfl

/-- The whole result is the layer's, by index. -/
theorem result_eq : R_main_v122 (scan a0 a1 a2 a5 a6 a7 a8 a9 a10 a11 a12 4096) a0 a3 a4 a13
      = fun y => Mamba.result (Mamba.params a1 a2 a3 a4 a5 a6 a7 a8 a9 a10 a11 a12 a13) a0 (y 0) (y 1) (y 2) (y 3) := by
  funext y
  obtain ⟨b, i, k, j, rfl⟩ : ∃ (b : Fin 4) (i k : Fin 64) (j : Fin 256), y = ix4 b i k j :=
    ⟨y 0, y 1, y 2, y 3, by funext a; fin_cases a <;> rfl⟩
  exact result_at a0 a1 a2 a3 a4 a5 a6 a7 a8 a9 a10 a11 a12 a13 b i k j

end Cert.ReferenceIdeal.Result

end
-- ==== Proof.Equation.lean ====
module

public import proofs.«01_k».proof.Proof.KernelValue
public import proofs.«01_k».proof.Proof.RefRun
public import proofs.«01_k».proof.Proof.RefValue

@[expose] public section

set_option maxRecDepth 16384

noncomputable section

/-! The equation: from memories agreeing on the arguments, kernel and reference hold the same result. -/

namespace Cert.Equation

open Idealize.ShloMosaic Idealize.ShloMosaic.TcCoe

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- What the reference's loop carries before trip `n`. -/
abbrev scan (c : Dev ReferenceIdeal.nD) : ℕ → ReferenceIdeal.Step.State Ideal :=
  ReferenceIdeal.Result.scan (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg5)) (m' ((c.tc : Thread ReferenceIdeal.nD ReferenceIdeal.τ).loc ReferenceIdeal.main_arg6)) (m' ((c.tc : Thread ReferenceIdeal.nD ReferenceIdeal.τ).loc ReferenceIdeal.main_arg7)) (m' ((c.tc : Thread ReferenceIdeal.nD ReferenceIdeal.τ).loc ReferenceIdeal.main_arg8)) (m' ((c.tc : Thread ReferenceIdeal.nD ReferenceIdeal.τ).loc ReferenceIdeal.main_arg9)) (m' ((c.tc : Thread ReferenceIdeal.nD ReferenceIdeal.τ).loc ReferenceIdeal.main_arg10)) (m' ((c.tc : Thread ReferenceIdeal.nD ReferenceIdeal.τ).loc ReferenceIdeal.main_arg11)) (m' ((c.tc : Thread ReferenceIdeal.nD ReferenceIdeal.τ).loc ReferenceIdeal.main_arg12))

/-- The two memories agree on the arguments. -/
def Agree : Prop := ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)
      ∧ m' ((c.tc : Thread ReferenceIdeal.nD ReferenceIdeal.τ).loc ReferenceIdeal.main_arg11) = m ((c.tc : Thread KernelIdeal.nD KernelIdeal.τ).loc KernelIdeal.main_arg11)
      ∧ m' ((c.tc : Thread ReferenceIdeal.nD ReferenceIdeal.τ).loc ReferenceIdeal.main_arg12) = m ((c.tc : Thread KernelIdeal.nD KernelIdeal.τ).loc KernelIdeal.main_arg12)
      ∧ m' ((c.tc : Thread ReferenceIdeal.nD ReferenceIdeal.τ).loc ReferenceIdeal.main_arg13) = m ((c.tc : Thread KernelIdeal.nD KernelIdeal.τ).loc KernelIdeal.main_arg13)

/-- The reference's result is the kernel's. -/
theorem reference_value (h : Agree m m') (c : Dev KernelIdeal.nD) :
    ReferenceIdeal.Step.R_main_v122 (scan m' c 4096) (m' ((c.tc : Thread ReferenceIdeal.nD ReferenceIdeal.τ).loc ReferenceIdeal.main_arg0)) (m' ((c.tc : Thread ReferenceIdeal.nD ReferenceIdeal.τ).loc ReferenceIdeal.main_arg3)) (m' ((c.tc : Thread ReferenceIdeal.nD ReferenceIdeal.τ).loc ReferenceIdeal.main_arg4)) (m' ((c.tc : Thread ReferenceIdeal.nD ReferenceIdeal.τ).loc ReferenceIdeal.main_arg13))
      = KernelIdeal.Entry.value m c := by
  refine (ReferenceIdeal.Result.result_eq (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg3)) (m' ((c.tc : Thread ReferenceIdeal.nD ReferenceIdeal.τ).loc ReferenceIdeal.main_arg4)) (m' ((c.tc : Thread ReferenceIdeal.nD ReferenceIdeal.τ).loc ReferenceIdeal.main_arg5)) (m' ((c.tc : Thread ReferenceIdeal.nD ReferenceIdeal.τ).loc ReferenceIdeal.main_arg6)) (m' ((c.tc : Thread ReferenceIdeal.nD ReferenceIdeal.τ).loc ReferenceIdeal.main_arg7)) (m' ((c.tc : Thread ReferenceIdeal.nD ReferenceIdeal.τ).loc ReferenceIdeal.main_arg8)) (m' ((c.tc : Thread ReferenceIdeal.nD ReferenceIdeal.τ).loc ReferenceIdeal.main_arg9)) (m' ((c.tc : Thread ReferenceIdeal.nD ReferenceIdeal.τ).loc ReferenceIdeal.main_arg10)) (m' ((c.tc : Thread ReferenceIdeal.nD ReferenceIdeal.τ).loc ReferenceIdeal.main_arg11)) (m' ((c.tc : Thread ReferenceIdeal.nD ReferenceIdeal.τ).loc ReferenceIdeal.main_arg12)) (m' ((c.tc : Thread ReferenceIdeal.nD ReferenceIdeal.τ).loc ReferenceIdeal.main_arg13))).trans ?_
  obtain ⟨h0, h1, h2, h3, h4, h5, h6, h7, h8, h9, h10, h11, h12, h13⟩ := h c
  rw [h0, h1, h2, h3, h4, h5, h6, h7, h8, h9, h10, h11, h12, h13]
  rfl

end Cert.Equation

end
-- ==== Proof.Setup.lean ====
module

public import proofs.«01_k».proof.Defs
public import proofs.«01_k».proof.Proof.WindowValue
public import Idealize.ShloMosaic.Lib.Pointwise

@[expose] public section

set_option maxRecDepth 16384

noncomputable section

/-! The precondition in words of the layer: the decay rates are the negatives of 1, 2, …, 64. -/

namespace Cert.Setup

open Idealize.ShloMosaic Idealize.ShloMosaic.TcCoe

/-- The side conditions the precondition states. -/
theorem facts : Cert.Pre_a_log_as_set_up.Facts where
  bcast_S_S512x64 := by decide

/-- Column `n`'s word, converted, is the number `n + 1`. -/
theorem number (n : Fin 64) : (FloatOps.sitofp FTy.f32 (IntOp.addi (BitVec.ofNat 32 n.val) 1#32) : Ideal FTy.f32) = ((n.val + 1 : ℝ) : EReal) := by
  have h : (IntOp.addi (BitVec.ofNat 32 n.val) 1#32).toInt = (n.val : ℤ) + 1 := by
    revert n; decide
  show (((IntOp.addi (BitVec.ofNat 32 n.val) 1#32).toInt : ℝ) : EReal) = _
  rw [h]; push_cast; rfl

/-- The exponential of the logarithm of `n + 1`. -/
theorem exp_log (n : Fin 64) : Ideal.exp (Ideal.log ((n.val + 1 : ℝ) : EReal)) = ((n.val + 1 : ℝ) : EReal) := by
  have h : (0 : ℝ) < n.val + 1 := by positivity
  show Ideal.exp (if (n.val + 1 : ℝ) ≤ 0 then ⊥ else (Real.log (n.val + 1 : ℝ) : EReal)) = _
  rw [if_neg (not_le.mpr h)]
  show ((Real.exp (Real.log (n.val + 1 : ℝ)) : ℝ) : EReal) = _
  rw [Real.exp_log h]

variable [Cert.Pre_a_log_as_set_up.Facts]

/-- The logarithms the precondition compares with. -/
theorem log_at (a0 : FVec Ideal Pre_a_log_as_set_up.S4x64x64x256 .f32) (a1 a2 a3 a4 : FVec Ideal Pre_a_log_as_set_up.S256 .f32)
    (a5 : FVec Ideal Pre_a_log_as_set_up.S1024x256 .f32) (a6 : FVec Ideal Pre_a_log_as_set_up.S512x4 .f32) (a7 : FVec Ideal Pre_a_log_as_set_up.S512 .f32)
    (a8 : FVec Ideal Pre_a_log_as_set_up.S144x512 .f32) (a9 : FVec Ideal Pre_a_log_as_set_up.S512x16 .f32) (a10 : FVec Ideal Pre_a_log_as_set_up.S512 .f32)
    (a11 : FVec Ideal Pre_a_log_as_set_up.S512x64 .f32) (a12 : FVec Ideal Pre_a_log_as_set_up.S512 .f32) (a13 : FVec Ideal Pre_a_log_as_set_up.S256x512 .f32)
    (d : Fin 512) (n : Fin 64) (h : Cert.Pre_a_log_as_set_up.fn (F := Ideal) a0 a1 a2 a3 a4 a5 a6 a7 a8 a9 a10 a11 a12 a13 (ix2 d n) = 1#1) :
    a11 (ix2 d n) = Ideal.log ((n.val + 1 : ℝ) : EReal) := by
  revert h
  pointwise [Cert.Pre_a_log_as_set_up.fn]
  rw [number]
  by_cases h : a11 (ix2 d n) = Ideal.log ((n.val + 1 : ℝ) : EReal)
  · exact fun _ => h
  · rw [decide_eq_false h]
    exact fun g => absurd g (by decide)

/-- Under the precondition the rates are `-1, -2, …, -64`. -/
theorem rates (m : (ℓ : Loc KernelIdeal.nD KernelIdeal.τ KernelIdeal.sig) → Buf (Elt Ideal) ℓ) (h : Pre_KernelIdeal_a_log_as_set_up m)
    (c : Dev KernelIdeal.nD) : KernelIdeal.Entry.Rates m c := by
  intro d n
  have e := log_at _ _ _ _ _ _ _ _ _ _ _ _ _ _ d n (congrFun (h c) (ix2 d n))
  show -Ideal.exp _ = _
  rw [e, exp_log]
  rfl

end Cert.Setup

end
-- ==== Proof.lean ====
/- The claims about the kernel, its idealized form and the reference, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Equation
public import proofs.«01_k».proof.Proof.Setup
public import Idealize.ShloMosaic.Adequacy
public import Idealize.ShloMosaic.Init

@[expose] public section

noncomputable section

namespace Cert.Proof

open Idealize.ShloMosaic Idealize.SL.Sem Cert.Kernel

/-- The kernel runs to the end, leaves its arguments as they were and every counter at zero. -/
theorem frame_kernel : Cert.quiescent_Kernel := fun m g _ => Cert.Kernel.Gen.frame m g

/-- The same of the idealized kernel. -/
theorem frame_ideal : Cert.quiescent_KernelIdeal := fun m g _ => Cert.KernelIdeal.Gen.frame m g

/-- The same of the reference, which declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The only named constant of the kernel is the reciprocal of the natural logarithm of two. -/
theorem preserves : Cert.preserves_Kernel_KernelIdeal :=
  IdealRules.named_const.statement Cert.KernelIdeal.κ "log2e" .f32 0x3FB8AA3B#32 (((Real.log 2)⁻¹ : ℝ) : EReal) rfl

/-- The frames again, under the precondition. -/
theorem frame_ideal_pre : Cert.quiescent_KernelIdeal_pre_a_log_as_set_up (hPre_a_log_as_set_up := Cert.Setup.facts) := fun m g _ =>
  Cert.KernelIdeal.Gen.frame m g

/-- The reference's too. -/
theorem frame_reference_pre : Cert.quiescent_ReferenceIdeal_pre_a_log_as_set_up (hPre_a_log_as_set_up := Cert.Setup.facts) := fun m g _ =>
  frame_reference m g trivial

/-- Over the extended reals the idealized kernel and the reference end with equal results: both hold the layer's. -/
theorem algebraic : Cert.algebraic_KernelIdeal_ReferenceIdeal_pre_a_log_as_set_up (hPre_a_log_as_set_up := Cert.Setup.facts) :=
  fun m g m' g' hpre h => by
    letI := Cert.Setup.facts
    refine ⟨Cert.KernelIdeal.Entry.value m, ?_, ?_⟩
    · exact (θ_run Cert.KernelIdeal.defs _ _).mono (fun r hr c => ⟨hr.1 c, hr.2 c⟩)
        (θ_run_and (Cert.KernelIdeal.Entry.run m g (Cert.Setup.rates m hpre)) (Cert.KernelIdeal.Gen.unchanged m g))
    · exact (θ_run Cert.ReferenceIdeal.defs _ _).mono (fun r hr c => ⟨(hr c).1.trans (Cert.Equation.reference_value m m' h c), (hr c).2⟩)
        (Cert.ReferenceIdeal.RefRun.run_iter m' g' (Cert.Equation.scan m') (fun _ => rfl) (fun _ _ => rfl))

/-- All the claims. -/
theorem claim : Cert.Claim :=
  ⟨Cert.Kernel.Gen.facts, Cert.KernelIdeal.Gen.facts, Cert.ReferenceIdeal.Gen.facts, Cert.Setup.facts,
    frame_kernel, frame_ideal, frame_ideal_pre, frame_reference, frame_reference_pre, preserves, algebraic⟩

end Cert.Proof

end
